-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S1x256x2x128 Cert.KernelIdeal.S1x256x1x128
  ∧ IdealRules.bf16_pair.Statement Cert.KernelIdeal.S1x1x2x128 Cert.KernelIdeal.S1x1x1x128
  ∧ IdealRules.bf16_pair.SelectZeroStatement Cert.KernelIdeal.S8x128
  ∧ IdealRules.bf16_pair.SelectZeroStatement Cert.KernelIdeal.S264x128
  ∧ IdealRules.bf16_pair.Statement Cert.KernelIdeal.S528x128 Cert.KernelIdeal.S264x128
  ∧ IdealRules.bf16_pair.Statement Cert.KernelIdeal.S256x2x128 Cert.KernelIdeal.S256x1x128
  ∧ IdealRules.bf16_pair.Statement Cert.KernelIdeal.S1x2x128 Cert.KernelIdeal.S1x1x128
  ∧ IdealRules.bf16_pair.PackStatement Cert.KernelIdeal.S264x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x257x16x88 : Shape := ⟨4, ![24, 257, 16, 88]⟩
abbrev S24x16x257x257 : Shape := ⟨4, ![24, 16, 257, 257]⟩
abbrev S16 : Shape := ⟨1, ![16]⟩
abbrev S24x16x88 : Shape := ⟨3, ![24, 16, 88]⟩
abbrev S24x257x16x257 : Shape := ⟨4, ![24, 257, 16, 257]⟩
abbrev S1x257x24x128 : Shape := ⟨4, ![1, 257, 24, 128]⟩
abbrev S1x257x16x128 : Shape := ⟨4, ![1, 257, 16, 128]⟩
abbrev S1x16x128 : Shape := ⟨3, ![1, 16, 128]⟩
abbrev S257x24x128 : Shape := ⟨3, ![257, 24, 128]⟩
abbrev S8x128 : Shape := ⟨2, ![8, 128]⟩
abbrev S1x128 : Shape := ⟨2, ![1, 128]⟩
abbrev S16x128 : Shape := ⟨2, ![16, 128]⟩
abbrev S1x1x16x128 : Shape := ⟨4, ![1, 1, 16, 128]⟩
abbrev S257x12x128 : Shape := ⟨3, ![257, 12, 128]⟩
abbrev S3084x128 : Shape := ⟨2, ![3084, 128]⟩
abbrev S256x128 : Shape := ⟨2, ![256, 128]⟩
abbrev S1x256x2x128 : Shape := ⟨4, ![1, 256, 2, 128]⟩
abbrev S1x256x1x128 : Shape := ⟨4, ![1, 256, 1, 128]⟩
abbrev S1x1x2x128 : Shape := ⟨4, ![1, 1, 2, 128]⟩
abbrev S1x1x1x128 : Shape := ⟨4, ![1, 1, 1, 128]⟩
abbrev S264x128 : Shape := ⟨2, ![264, 128]⟩
abbrev S256x2x128 : Shape := ⟨3, ![256, 2, 128]⟩
abbrev S256x1x128 : Shape := ⟨3, ![256, 1, 128]⟩
abbrev S1x2x128 : Shape := ⟨3, ![1, 2, 128]⟩
abbrev S1x1x128 : Shape := ⟨3, ![1, 1, 128]⟩
abbrev S257x16x128 : Shape := ⟨3, ![257, 16, 128]⟩
abbrev S257x4x128 : Shape := ⟨3, ![257, 4, 128]⟩
abbrev S1 : Shape := ⟨1, ![1]⟩
abbrev S264x384 : Shape := ⟨2, ![264, 384]⟩
abbrev S120x128 : Shape := ⟨2, ![120, 128]⟩
abbrev S384x128 : Shape := ⟨2, ![384, 128]⟩
abbrev S264 : Shape := ⟨1, ![264]⟩
abbrev S264x1 : Shape := ⟨2, ![264, 1]⟩

abbrev nBuf : Space → Nat
  | .hbm => 11
  | .vmem => 23
  | .smem => 1
  | _ => 0

abbrev bufTy : (tb : Table) → Fin (tcTables nBuf tb) → BufTy
  | .hbm, ⟨0, _⟩ => ⟨S24x257x16x88, .bf16⟩
  | .hbm, ⟨1, _⟩ => ⟨S24x257x16x88, .bf16⟩
  | .hbm, ⟨2, _⟩ => ⟨S24x16x257x257, .i8⟩
  | .hbm, ⟨3, _⟩ => ⟨S16, .f32⟩
  | .hbm, ⟨4, _⟩ => ⟨S24x257x16x88, .fp8e4m3⟩
  | .hbm, ⟨5, _⟩ => ⟨S24x16x88, .f32⟩
  | .hbm, ⟨6, _⟩ => ⟨S24x257x16x88, .bf16⟩
  | .hbm, ⟨7, _⟩ => ⟨S24x257x16x257, .i8⟩
  | .hbm, ⟨8, _⟩ => ⟨S24x257x16x88, .bf16⟩
  | .hbm, ⟨9, _⟩ => ⟨S24x257x16x88, .bf16⟩
  | .hbm, ⟨10, _⟩ => ⟨S24x257x16x88, .bf16⟩
  | .local _ .vmem, ⟨0, _⟩ => ⟨S1x257x24x128, .bf16⟩
  | .local _ .vmem, ⟨1, _⟩ => ⟨S1x257x24x128, .bf16⟩
  | .local _ .vmem, ⟨2, _⟩ => ⟨S1x257x24x128, .bf16⟩
  | .local _ .vmem, ⟨3, _⟩ => ⟨S1x257x24x128, .bf16⟩
  | .local _ .vmem, ⟨4, _⟩ => ⟨S1x257x16x128, .i8⟩
  | .local _ .vmem, ⟨5, _⟩ => ⟨S1x257x16x128, .i8⟩
  | .local _ .vmem, ⟨6, _⟩ => ⟨S1x257x16x128, .i8⟩
  | .local _ .vmem, ⟨7, _⟩ => ⟨S1x257x16x128, .i8⟩
  | .local _ .vmem, ⟨8, _⟩ => ⟨S1x257x16x128, .i8⟩
  | .local _ .vmem, ⟨9, _⟩ => ⟨S1x257x16x128, .i8⟩
  | .local _ .vmem, ⟨10, _⟩ => ⟨S1x257x16x128, .fp8e4m3⟩
  | .local _ .vmem, ⟨11, _⟩ => ⟨S1x257x16x128, .fp8e4m3⟩
  | .local _ .vmem, ⟨12, _⟩ => ⟨S1x16x128, .f32⟩
  | .local _ .vmem, ⟨13, _⟩ => ⟨S1x16x128, .f32⟩
  | .local _ .vmem, ⟨14, _⟩ => ⟨S1x257x24x128, .bf16⟩
  | .local _ .vmem, ⟨15, _⟩ => ⟨S1x257x24x128, .bf16⟩
  | .local _ .vmem, ⟨16, _⟩ => ⟨S1x257x24x128, .bf16⟩
  | .local _ .vmem, ⟨17, _⟩ => ⟨S1x257x24x128, .bf16⟩
  | .local _ .vmem, ⟨18, _⟩ => ⟨S1x257x24x128, .bf16⟩
  | .local _ .vmem, ⟨19, _⟩ => ⟨S1x257x24x128, .bf16⟩
  | .local _ .vmem, ⟨20, _⟩ => ⟨S1x257x24x128, .bf16⟩
  | .local _ .vmem, ⟨21, _⟩ => ⟨S1x257x24x128, .bf16⟩
  | .local _ .vmem, ⟨22, _⟩ => ⟨S257x24x128, .bf16⟩
  | .local _ .smem, ⟨0, _⟩ => ⟨S16, .f32⟩
  | _, _ => ⟨S24x257x16x88, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [BitOps F]

abbrev grid0 : Pipeline.Grid := ⟨1, ![24], ![false]⟩

@[reducible] def k0_t1_loop : Scf.Loop 32 :=
  let c0_i32_2 : BitVec 32 := 0#32
  let c257_i32 : BitVec 32 := 257#32
  let v9 : BitVec 32 := Scalar.addi c0_i32_2 c257_i32
  let c1_i32 : BitVec 32 := 1#32
  ⟨c0_i32_2, v9, c1_i32⟩
def k0_off1 (k0_t1 : Fin k0_t1_loop.trips) : Fin 4 → Nat :=
  let c0_1097 : Index := 0#32
  let c0_i32_2 : BitVec 32 := 0#32
  let c1_i32 : BitVec 32 := 1#32
  let arg14 : BitVec 32 := Scf.iv c0_i32_2 c1_i32 k0_t1
  let v2114 : Index := Scalar.indexCast arg14
  let c0_1098 : Index := 0#32
  let c0_1099 : Index := 0#32
  ![0, v2114.toNat, 0, 0]
def k0_off2 (k0_t1 : Fin k0_t1_loop.trips) : Fin 3 → Nat :=
  let c0_i32_2 : BitVec 32 := 0#32
  let c1_i32 : BitVec 32 := 1#32
  let arg14 : BitVec 32 := Scf.iv c0_i32_2 c1_i32 k0_t1
  let v2119 : Index := Scalar.indexCast arg14
  let c0_1100 : Index := 0#32
  let c0_1101 : Index := 0#32
  ![v2119.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![arg0.toNat, c0_i32.toNat, c0_i32_0.toNat, c1_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![arg0.toNat, c0_i32.toNat, c0_i32_0.toNat, c2_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x257x24x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x257x24x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x257x16x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x257x16x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x257x16x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x257x16x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x257x24x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x257x24x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x257x24x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x257x24x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
abbrev S528x128 : Shape := ⟨2, ![528, 128]⟩
variable {F : FTy → Type} [FloatOps F]
-- ==== ReferenceIdeal.lean ====
abbrev S24x257x16x88 : Shape := ⟨4, ![24, 257, 16, 88]⟩
abbrev S24x16x257x257 : Shape := ⟨4, ![24, 16, 257, 257]⟩
abbrev S16 : Shape := ⟨1, ![16]⟩
abbrev S24x16x88 : Shape := ⟨3, ![24, 16, 88]⟩
abbrev S1x16x1x1 : Shape := ⟨4, ![1, 16, 1, 1]⟩
abbrev S1x1x16x1 : Shape := ⟨4, ![1, 1, 16, 1]⟩
abbrev S24x16x88x257 : Shape := ⟨4, ![24, 16, 88, 257]⟩
abbrev S24x1x16x88 : Shape := ⟨4, ![24, 1, 16, 88]⟩
abbrev S_ : Shape := ⟨0, ![]⟩
abbrev S24x16x257 : Shape := ⟨3, ![24, 16, 257]⟩
abbrev S24x16x257x1 : Shape := ⟨4, ![24, 16, 257, 1]⟩

abbrev nBuf : Space → Nat
  | .hbm => 44
  | .vmem => 5
  | .smem => 0
  | _ => 0

abbrev bufTy : (tb : Table) → Fin (tcTables nBuf tb) → BufTy
  | .hbm, ⟨0, _⟩ => ⟨S24x257x16x88, .bf16⟩
  | .hbm, ⟨1, _⟩ => ⟨S24x257x16x88, .bf16⟩
  | .hbm, ⟨2, _⟩ => ⟨S24x16x257x257, .i8⟩
  | .hbm, ⟨3, _⟩ => ⟨S16, .f32⟩
  | .hbm, ⟨4, _⟩ => ⟨S24x257x16x88, .fp8e4m3⟩
  | .hbm, ⟨5, _⟩ => ⟨S24x16x88, .f32⟩
  | .hbm, ⟨6, _⟩ => ⟨S24x257x16x88, .bf16⟩
  | .hbm, ⟨7, _⟩ => ⟨S24x16x257x257, .f32⟩
  | .hbm, ⟨8, _⟩ => ⟨S24x16x257x257, .bf16⟩
  | .hbm, ⟨9, _⟩ => ⟨S24x257x16x88, .bf16⟩
  | .hbm, ⟨10, _⟩ => ⟨S1x16x1x1, .f32⟩
  | .hbm, ⟨11, _⟩ => ⟨S24x16x257x257, .f32⟩
  | .hbm, ⟨12, _⟩ => ⟨S24x16x257x257, .f32⟩
  | .hbm, ⟨13, _⟩ => ⟨S1x1x16x1, .f32⟩
  | .hbm, ⟨14, _⟩ => ⟨S24x16x88x257, .f32⟩
  | .hbm, ⟨15, _⟩ => ⟨S24x257x16x88, .f32⟩
  | .hbm, ⟨16, _⟩ => ⟨S24x257x16x88, .f32⟩
  | .hbm, ⟨17, _⟩ => ⟨S24x257x16x88, .f32⟩
  | .hbm, ⟨18, _⟩ => ⟨S24x16x88, .bf16⟩
  | .hbm, ⟨19, _⟩ => ⟨S24x1x16x88, .bf16⟩
  | .hbm, ⟨20, _⟩ => ⟨S24x257x16x88, .bf16⟩
  | .hbm, ⟨21, _⟩ => ⟨S24x257x16x88, .bf16⟩
  | .hbm, ⟨22, _⟩ => ⟨S24x16x257x257, .f32⟩
  | .hbm, ⟨23, _⟩ => ⟨S24x16x257x257, .f32⟩
  | .hbm, ⟨24, _⟩ => ⟨S_, .f32⟩
  | .hbm, ⟨25, _⟩ => ⟨S24x16x257, .f32⟩
  | .hbm, ⟨26, _⟩ => ⟨S24x16x257x1, .f32⟩
  | .hbm, ⟨27, _⟩ => ⟨S24x16x257x257, .f32⟩
  | .hbm, ⟨28, _⟩ => ⟨S24x16x257x257, .f32⟩
  | .hbm, ⟨29, _⟩ => ⟨S24x16x257x257, .f32⟩
  | .hbm, ⟨30, _⟩ => ⟨S24x16x257x257, .bf16⟩
  | .hbm, ⟨31, _⟩ => ⟨S24x16x88x257, .f32⟩
  | .hbm, ⟨32, _⟩ => ⟨S24x257x16x88, .f32⟩
  | .hbm, ⟨33, _⟩ => ⟨S_, .f32⟩
  | .hbm, ⟨34, _⟩ => ⟨S24x257x16x88, .f32⟩
  | .hbm, ⟨35, _⟩ => ⟨S24x257x16x88, .f32⟩
  | .hbm, ⟨36, _⟩ => ⟨S24x16x88x257, .f32⟩
  | .hbm, ⟨37, _⟩ => ⟨S24x257x16x88, .f32⟩
  | .hbm, ⟨38, _⟩ => ⟨S_, .f32⟩
  | .hbm, ⟨39, _⟩ => ⟨S24x257x16x88, .f32⟩
  | .hbm, ⟨40, _⟩ => ⟨S24x257x16x88, .f32⟩
  | .hbm, ⟨41, _⟩ => ⟨S24x257x16x88, .bf16⟩
  | .hbm, ⟨42, _⟩ => ⟨S24x257x16x88, .bf16⟩
  | .hbm, ⟨43, _⟩ => ⟨S24x257x16x88, .bf16⟩
  | .local _ .vmem, ⟨0, _⟩ => ⟨S24x16x257x257, .i8⟩
  | .local _ .vmem, ⟨1, _⟩ => ⟨S24x257x16x88, .fp8e4m3⟩
  | .local _ .vmem, ⟨2, _⟩ => ⟨S24x16x257x257, .f32⟩
  | .local _ .vmem, ⟨3, _⟩ => ⟨S24x16x257x257, .bf16⟩
  | .local _ .vmem, ⟨4, _⟩ => ⟨S24x257x16x88, .bf16⟩
  | _, _ => ⟨S24x257x16x88, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24x16x257x257 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x257x16x88 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x16x257x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x16x257x257 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x257x16x88 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.RunK.lean ====
module

public import proofs.«01_k».proof.Proof.Gen.Kernel.Loops
public import proofs.«01_k».proof.Proof.Gen.Kernel.Frame
public import Idealize.ShloMosaic.Lib.Tactic

@[expose] public section

set_option maxRecDepth 16384

noncomputable section

namespace Cert.Proof.RunK

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [BitOps F]

local notation "𝕄" => MT nD τ sig Unit (Elt F) ℕ (UR sig nD τ) ℕ

abbrev 𝒱₀ : Variants := Variants.none

set_option maxHeartbeats 4000000 in
noncomputable def kernelRun (c : Dev nD) (i : grid0.Coords)
    (M1 : Memref sig .tc .smem S16 .f32) (h1 : M1.IsWhole)
    (M2 : Memref sig .tc .vmem S1x257x24x128 .bf16) (h2 : M2.IsWhole)
    (M3 : Memref sig .tc .vmem S1x257x24x128 .bf16) (h3 : M3.IsWhole)
    (M4 : Memref sig .tc .vmem S1x257x16x128 .i8) (h4 : M4.IsWhole)
    (M5 : Memref sig .tc .vmem S1x257x16x128 .i8) (h5 : M5.IsWhole)
    (M6 : Memref sig .tc .vmem S1x257x16x128 .i8) (h6 : M6.IsWhole)
    (M7 : Memref sig .tc .vmem S1x257x16x128 .fp8e4m3) (h7 : M7.IsWhole)
    (M8 : Memref sig .tc .vmem S1x16x128 .f32) (h8 : M8.IsWhole)
    (M9 : Memref sig .tc .vmem S1x257x24x128 .bf16) (h9 : M9.IsWhole)
    (M10 : Memref sig .tc .vmem S1x257x24x128 .bf16) (h10 : M10.IsWhole)
    (M11 : Memref sig .tc .vmem S1x257x24x128 .bf16) (h11 : M11.IsWhole)
    (M12 : Memref sig .tc .vmem S1x257x24x128 .bf16) (h12 : M12.IsWhole)
    (M13 : Memref sig .tc .vmem S257x24x128 .bf16) (h13 : M13.IsWhole)
    (x1 : Vec F S16 .f32) (x2 x3 : Vec F S1x257x24x128 .bf16) (x4 x5 x6 : Vec F S1x257x16x128 .i8)
    (x7 : Vec F S1x257x16x128 .fp8e4m3) (x8 : Vec F S1x16x128 .f32) (x9 : Vec F S1x257x24x128 .bf16)
    (d10 d11 d12 : Vec F S1x257x24x128 .bf16) (d13 : Vec F S257x24x128 .bf16) :
    Σ' (Y10 : Vec F S1x257x24x128 .bf16) (Y11 : Vec F S1x257x24x128 .bf16), { Y12 : Vec F S1x257x24x128 .bf16 //
      ∀ (E : Set ℕ) (K : PUnit → sProp 𝕄),
        iprop(owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare x5 ∗ owns (c : Thread nD τ) M6 fullShare x6
            ∗ owns (c : Thread nD τ) M7 fullShare x7 ∗ owns (c : Thread nD τ) M8 fullShare x8 ∗ owns (c : Thread nD τ) M9 fullShare x9
            ∗ owns (c : Thread nD τ) M10 fullShare d10 ∗ owns (c : Thread nD τ) M11 fullShare d11 ∗ owns (c : Thread nD τ) M12 fullShare d12
            ∗ owns (c : Thread nD τ) M13 fullShare d13
            ∗ (iprop(owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare x5 ∗ owns (c : Thread nD τ) M6 fullShare x6
            ∗ owns (c : Thread nD τ) M7 fullShare x7 ∗ owns (c : Thread nD τ) M8 fullShare x8 ∗ owns (c : Thread nD τ) M9 fullShare x9
            ∗ owns (c : Thread nD τ) M10 fullShare Y10 ∗ owns (c : Thread nD τ) M11 fullShare Y11 ∗ owns (c : Thread nD τ) M12 fullShare Y12
            ∗ (∃ d, owns (c : Thread nD τ) M13 fullShare d)) -∗ K ⟨⟩))
          ⊢ wp frame (wpE (defs₀ (F := F)) 𝒱₀ c none) E (cc0_mha_bwd i M1 h1 M2 h2 M3 h3 M4 h4 M5 h5 M6 h6 M7 h7 M8 h8 M9 h9 M10 h10 M11 h11 M12 h12 M13 h13) K } := by
  refine ⟨?_, ?_, ?_, fun E K => ?run⟩
  case run =>
    simp only [cc0_mha_bwd_eq_skeleton]; unfold cc0_mha_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    obtain rfl := h7.eq_unread hf7; obtain rfl := h8.eq_unread hf8; obtain rfl := h9.eq_unread hf9
    obtain rfl := h10.eq_unread hf10; obtain rfl := h11.eq_unread hf11; obtain rfl := h12.eq_unread hf12
    obtain rfl := h13.eq_unread hf13
    sl_exec_parts
    sl_step
    iapply Hk
    isplitl [H1]; · iexists _; isplitr; swap; · iexact H1
                    ipureintro; exact h1.read_unread _
    isplitl [H2]; · iexists _; isplitr; swap; · iexact H2
                    ipureintro; exact h2.read_unread _
    isplitl [H3]; · iexists _; isplitr; swap; · iexact H3
                    ipureintro; exact h3.read_unread _
    isplitl [H4]; · iexists _; isplitr; swap; · iexact H4
                    ipureintro; exact h4.read_unread _
    isplitl [H5]; · iexists _; isplitr; swap; · iexact H5
                    ipureintro; exact h5.read_unread _
    isplitl [H6]; · iexists _; isplitr; swap; · iexact H6
                    ipureintro; exact h6.read_unread _
    isplitl [H7]; · iexists _; isplitr; swap; · iexact H7
                    ipureintro; exact h7.read_unread _
    isplitl [H8]; · iexists _; isplitr; swap; · iexact H8
                    ipureintro; exact h8.read_unread _
    isplitl [H9]; · iexists _; isplitr; swap; · iexact H9
                    ipureintro; exact h9.read_unread _
    isplitl [H10]; · iexists _; isplitr; swap; · iexact H10
                     ipureintro; rfl
    isplitl [H11]; · iexists _; isplitr; swap; · iexact H11
                     ipureintro; rfl
    isplitl [H12]; · iexists _; isplitr; swap; · iexact H12
                     ipureintro; rfl
    iexists _; iexists _; isplitr; swap; · iexact H13
    ipureintro; rfl

end Cert.Proof.RunK
-- ==== Proof.FrameK.lean ====
module

public import proofs.«01_k».proof.Proof.RunK

@[expose] public section

set_option maxRecDepth 16384

noncomputable section

namespace Cert.Proof.FrameK

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose cellOf ΦA)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A window's block at point `t`, filled out past the array's end with arbitrary contents. -/
def filled (c : Dev nD) (w : Fin cfg0.W) (t : Fin cfg0.N) : (cfg0.win w).block.Idx → Elt F (cfg0.win w).elt :=
  (cfg0.win w).fill (cfg0.grid.coords t) (fun _ => Classical.choice inferInstance) (iblk m c w t)

/-- The outputs: the three result windows, of which the frame says nothing. -/
abbrev fgt : Fin cfg0.W → Bool := fun
  | ⟨0, _⟩ | ⟨1, _⟩ | ⟨2, _⟩ | ⟨3, _⟩ | ⟨4, _⟩ | ⟨5, _⟩ | ⟨6, _⟩ | ⟨7, _⟩ | ⟨8, _⟩ => false
  | _ => true

/-- The proof data: each input's buffer keeps its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => filled m c 1 t
    | ⟨2, _⟩ => filled m c 2 t
    | ⟨3, _⟩ => filled m c 3 t
    | ⟨4, _⟩ => filled m c 4 t
    | ⟨5, _⟩ => filled m c 5 t
    | ⟨6, _⟩ => filled m c 6 t
    | ⟨7, _⟩ => filled m c 7 t
    | ⟨8, _⟩ => filled m c 8 t
    | ⟨9, _⟩ => filled m c 9 t
    | ⟨10, _⟩ => filled m c 10 t
    | ⟨11, _⟩ => filled m c 11 t
  Φ _ := ΦA spec0 c
  q w := Pipeline.shareOf spec0 w
  owed _ := 0

/-- The array of a window is the value of its reference when the grid starts. -/
theorem A_eq (c : Dev nD) (w : Fin cfg0.W) : (dats m 0 c).A w = V m c (Pipeline.arrRef spec0 w) := by
  dsimp only [dats]

/-- After a grid step the window on the scales of the codes holds all of them. -/
theorem after_0 (c : Dev nD) (t : Fin cfg0.N) : (dats m 0 c).after 0 t = iblk m c 0 t := by dsimp only [dats]
/-- After a grid step the window on q holds its block, filled out past the end of its array. -/
theorem after_1 (c : Dev nD) (t : Fin cfg0.N) : (dats m 0 c).after 1 t = filled m c 1 t := by dsimp only [dats]
/-- After a grid step the window on k holds its block, filled out past the end of its array. -/
theorem after_2 (c : Dev nD) (t : Fin cfg0.N) : (dats m 0 c).after 2 t = filled m c 2 t := by dsimp only [dats]
/-- After a grid step the window on the first 128 columns of the codes holds its block, filled out past the end of its array. -/
theorem after_3 (c : Dev nD) (t : Fin cfg0.N) : (dats m 0 c).after 3 t = filled m c 3 t := by dsimp only [dats]
/-- After a grid step the window on the second 128 columns of the codes holds its block, filled out past the end of its array. -/
theorem after_4 (c : Dev nD) (t : Fin cfg0.N) : (dats m 0 c).after 4 t = filled m c 4 t := by dsimp only [dats]
/-- After a grid step the window on the last column of the codes holds its block, filled out past the end of its array. -/
theorem after_5 (c : Dev nD) (t : Fin cfg0.N) : (dats m 0 c).after 5 t = filled m c 5 t := by dsimp only [dats]
/-- After a grid step the window on the 8-bit values holds its block, filled out past the end of its array. -/
theorem after_6 (c : Dev nD) (t : Fin cfg0.N) : (dats m 0 c).after 6 t = filled m c 6 t := by dsimp only [dats]
/-- After a grid step the window on the scales of the values holds its block, filled out past the end of its array. -/
theorem after_7 (c : Dev nD) (t : Fin cfg0.N) : (dats m 0 c).after 7 t = filled m c 7 t := by dsimp only [dats]
/-- After a grid step the window on the output gradient holds its block, filled out past the end of its array. -/
theorem after_8 (c : Dev nD) (t : Fin cfg0.N) : (dats m 0 c).after 8 t = filled m c 8 t := by dsimp only [dats]

/-- Before a grid step the window on the scales of the codes holds all of them. -/
theorem before_0 (c : Dev nD) (t : Fin cfg0.N) (d) : (dats m 0 c).before 0 t d = iblk m c 0 t :=
  before0_0_of m (dats m 0 c) (A_eq m c 0) (after_0 m c) t d
/-- Before a grid step the window on q holds the block of its array, with what was there outside the array. -/
theorem before_1 (c : Dev nD) (t : Fin cfg0.N) (d) :
    (dats m 0 c).before 1 t d = (cfg0.win 1).fill (cfg0.grid.coords t) d (iblk m c 1 t) := by
  unfold Dat.before; rw [if_pos (fetch0_1 t)]; rfl
/-- Before a grid step the window on k holds the block of its array, with what was there outside the array. -/
theorem before_2 (c : Dev nD) (t : Fin cfg0.N) (d) :
    (dats m 0 c).before 2 t d = (cfg0.win 2).fill (cfg0.grid.coords t) d (iblk m c 2 t) := by
  unfold Dat.before; rw [if_pos (fetch0_2 t)]; rfl
/-- Before a grid step the window on the first 128 columns of the codes holds the block of its array, with what was there
outside the array. -/
theorem before_3 (c : Dev nD) (t : Fin cfg0.N) (d) :
    (dats m 0 c).before 3 t d = (cfg0.win 3).fill (cfg0.grid.coords t) d (iblk m c 3 t) := by
  unfold Dat.before; rw [if_pos (fetch0_3 t)]; rfl
/-- Before a grid step the window on the second 128 columns of the codes holds the block of its array, with what was there
outside the array. -/
theorem before_4 (c : Dev nD) (t : Fin cfg0.N) (d) :
    (dats m 0 c).before 4 t d = (cfg0.win 4).fill (cfg0.grid.coords t) d (iblk m c 4 t) := by
  unfold Dat.before; rw [if_pos (fetch0_4 t)]; rfl
/-- Before a grid step the window on the last column of the codes holds the block of its array, with what was there outside
the array. -/
theorem before_5 (c : Dev nD) (t : Fin cfg0.N) (d) :
    (dats m 0 c).before 5 t d = (cfg0.win 5).fill (cfg0.grid.coords t) d (iblk m c 5 t) := by
  unfold Dat.before; rw [if_pos (fetch0_5 t)]; rfl
/-- Before a grid step the window on the 8-bit values holds the block of its array, with what was there outside the array. -/
theorem before_6 (c : Dev nD) (t : Fin cfg0.N) (d) :
    (dats m 0 c).before 6 t d = (cfg0.win 6).fill (cfg0.grid.coords t) d (iblk m c 6 t) := by
  unfold Dat.before; rw [if_pos (fetch0_6 t)]; rfl
/-- Before a grid step the window on the scales of the values holds the block of its array, with what was there outside the
array. -/
theorem before_7 (c : Dev nD) (t : Fin cfg0.N) (d) :
    (dats m 0 c).before 7 t d = (cfg0.win 7).fill (cfg0.grid.coords t) d (iblk m c 7 t) := by
  unfold Dat.before; rw [if_pos (fetch0_7 t)]; rfl
/-- Before a grid step the window on the output gradient holds the block of its array, with what was there outside the array. -/
theorem before_8 (c : Dev nD) (t : Fin cfg0.N) (d) :
    (dats m 0 c).before 8 t d = (cfg0.win 8).fill (cfg0.grid.coords t) d (iblk m c 8 t) := by
  unfold Dat.before; rw [if_pos (fetch0_8 t)]; rfl

/-- The scoped rest is the scratch array, owned whole at some contents. -/
theorem scratch_eq (c : Dev nD) : (Pipeline.scopedRest spec0 c : sProp 𝕄)
    = iprop(∃ d : Vec F S257x24x128 .bf16, owns (c : Thread nD τ) (Memref.whole cc0_scratch0) fullShare d) := by
  rw [scopedRest0_eq]
  exact congrArg _ (funext fun f => (owns_whole (c : Thread nD τ) cc0_scratch0 fullShare f).symm)

/-- The input windows' part of what the body is called with. -/
def preIn (c : Dev nD) (t : Fin cfg0.N) (R : sProp 𝕄) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ R)

/-- The input windows' part of what it returns. -/
def postIn (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t))))
    ∗ (∃ d, owns (c : Thread nD τ) (st0_5 t) fullShare ((cfg0.win 5).fill (cfg0.grid.coords t) d ((cfg0.win 5).cut (cfg0.grid.coords t) ((dats m 0 c).after 5 t))))
    ∗ (∃ d, owns (c : Thread nD τ) (st0_6 t) fullShare ((cfg0.win 6).fill (cfg0.grid.coords t) d ((cfg0.win 6).cut (cfg0.grid.coords t) ((dats m 0 c).after 6 t))))
    ∗ (∃ d, owns (c : Thread nD τ) (st0_7 t) fullShare ((cfg0.win 7).fill (cfg0.grid.coords t) d ((cfg0.win 7).cut (cfg0.grid.coords t) ((dats m 0 c).after 7 t))))
    ∗ (∃ d, owns (c : Thread nD τ) (st0_8 t) fullShare ((cfg0.win 8).fill (cfg0.grid.coords t) d ((cfg0.win 8).cut (cfg0.grid.coords t) ((dats m 0 c).after 8 t))))
    ∗ R)

set_option maxHeartbeats 1000000 in
/-- The body at any point, with the outputs at anything before and after. -/
theorem sound_body (c : Dev nD) (t : Fin cfg0.N) :
    preIn m c t iprop((∃ X, owns (c : Thread nD τ) (st0_9 t) fullShare X) ∗ (∃ X, owns (c : Thread nD τ) (st0_10 t) fullShare X)
        ∗ (∃ X, owns (c : Thread nD τ) (st0_11 t) fullShare X))
      ⊢ wp frame (wpE (defs₀ (F := F)) Variants.none c none) Set.univ (bodyAt0 t) (fun _ =>
        postIn m c t iprop((∃ X, owns (c : Thread nD τ) (st0_9 t) fullShare X) ∗ (∃ X, owns (c : Thread nD τ) (st0_10 t) fullShare X)
        ∗ (∃ X, owns (c : Thread nD τ) (st0_11 t) fullShare X))) := by
  unfold preIn postIn bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  unfold filled
  simp only [Window.cut_fill]
  rw [show (dats m 0 c).Φ t.castSucc = ΦA spec0 c from rfl, show (ΦA spec0 c : sProp 𝕄) = iprop(Pipeline.scopedRest spec0 c ∗ ∃ r, prngReg c r) from rfl, scratch_eq c]
  iintro ⟨⟨⟨%fs, Hs⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((RunK.kernelRun c (grid0.coords t) _ _ _ _ _ _ _ _ _ _ _ _ _ _ _ _ _ _ _ _ _ _ _ _ (Memref.whole cc0_scratch0) (Memref.isWhole_whole _)
    (iblk m c 0 t) ((cfg0.win 1).fill (cfg0.grid.coords t) d1 (iblk m c 1 t)) ((cfg0.win 2).fill (cfg0.grid.coords t) d2 (iblk m c 2 t))
    ((cfg0.win 3).fill (cfg0.grid.coords t) d3 (iblk m c 3 t)) ((cfg0.win 4).fill (cfg0.grid.coords t) d4 (iblk m c 4 t))
    ((cfg0.win 5).fill (cfg0.grid.coords t) d5 (iblk m c 5 t)) ((cfg0.win 6).fill (cfg0.grid.coords t) d6 (iblk m c 6 t))
    ((cfg0.win 7).fill (cfg0.grid.coords t) d7 (iblk m c 7 t)) ((cfg0.win 8).fill (cfg0.grid.coords t) d8 (iblk m c 8 t))
    d9 d10 d11 fs).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hs]; · iexact Hs
  iintro ⟨H0, H1, H2, H3, H4, H5, H6, H7, H8, H9, H10, H11, ⟨%ds, Hs⟩⟩
  isplitl [Hs Hp]
  · isplitl [Hs]
    · iexists ds; iexact Hs
    iexact Hp
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  isplitl [H5]; · iexists d5; iexact H5
  isplitl [H6]; · iexists d6; iexact H6
  isplitl [H7]; · iexists d7; iexact H7
  isplitl [H8]; · iexists d8; iexact H8
  isplitl [H9]; · iexists _; iexact H9
  isplitl [H10]; · iexists _; iexact H10
  iexists _; iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point, the outputs forgotten. -/
theorem body_obligation (c : Dev nD) : BodyObligationLoose (dats (F := F) m 0 c) (defs₀ (F := F)) Variants.none () Set.univ fgt := fun t => by
  rw [bigSep_W0, bigSep_W0, defs₀_row]
  exact sound_body m c t

set_option backward.isDefEq.respectTransparency.types false in
set_option maxHeartbeats 800000 in
/-- The run: it terminates, the arrays of the input windows end as the region found them, and every semaphore is at zero. -/
theorem run_main : θ_run defs (onTc (τ := τ) (main (F := F))) (s₀ m ρ) (fun r => (RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := body_obligation m) (hq := fun _ _ _ => rfl)
    (howed := fun _ _ => rfl) (V := V m)
    (hmain := hmain m Variants.none) (hA := A_eq m) (hΦ := fun _ _ => rfl)

/-- THE FRAME: the program terminates without a fault, its arguments end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r (h : _ ∧ _) => ⟨fun c => ⟨(h.1.arr_in c 1 rfl).trans (V_main_arg0 m c),
      (h.1.arr_in c 2 rfl).trans (V_main_arg1 m c),
      ((h.1 c).2 main_arg2 (Pipeline.mem_restRefs_of main_arg2 (by decide) (by decide))).trans (V_main_arg2 m c),
      (h.1.arr_in c 0 rfl).trans (V_main_arg3 m c),
      (h.1.arr_in c 6 rfl).trans (V_main_arg4 m c),
      (h.1.arr_in c 7 rfl).trans (V_main_arg5 m c),
      (h.1.arr_in c 8 rfl).trans (V_main_arg6 m c)⟩, h.2⟩) (run_main m ρ)

end Cert.Proof.FrameK
-- ==== Proof.RunI.lean ====
module

public import proofs.«01_k».proof.Proof.Gen.KernelIdeal.Loops
public import proofs.«01_k».proof.Proof.Gen.KernelIdeal.Frame
public import Idealize.ShloMosaic.Lib.Tactic

@[expose] public section

set_option maxRecDepth 16384

noncomputable section

namespace Cert.Proof.RunI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

set_option maxHeartbeats 4000000 in
noncomputable def kernelRun (c : Dev nD) (i : grid0.Coords)
    (M1 : Memref sig .tc .smem S16 .f32) (h1 : M1.IsWhole)
    (M2 : Memref sig .tc .vmem S1x257x24x128 .bf16) (h2 : M2.IsWhole)
    (M3 : Memref sig .tc .vmem S1x257x24x128 .bf16) (h3 : M3.IsWhole)
    (M4 : Memref sig .tc .vmem S1x257x16x128 .i8) (h4 : M4.IsWhole)
    (M5 : Memref sig .tc .vmem S1x257x16x128 .i8) (h5 : M5.IsWhole)
    (M6 : Memref sig .tc .vmem S1x257x16x128 .i8) (h6 : M6.IsWhole)
    (M7 : Memref sig .tc .vmem S1x257x16x128 .fp8e4m3) (h7 : M7.IsWhole)
    (M8 : Memref sig .tc .vmem S1x16x128 .f32) (h8 : M8.IsWhole)
    (M9 : Memref sig .tc .vmem S1x257x24x128 .bf16) (h9 : M9.IsWhole)
    (M10 : Memref sig .tc .vmem S1x257x24x128 .bf16) (h10 : M10.IsWhole)
    (M11 : Memref sig .tc .vmem S1x257x24x128 .bf16) (h11 : M11.IsWhole)
    (M12 : Memref sig .tc .vmem S1x257x24x128 .bf16) (h12 : M12.IsWhole)
    (M13 : Memref sig .tc .vmem S257x24x128 .bf16) (h13 : M13.IsWhole)
    (x1 : Vec F S16 .f32) (x2 x3 : Vec F S1x257x24x128 .bf16) (x4 x5 x6 : Vec F S1x257x16x128 .i8)
    (x7 : Vec F S1x257x16x128 .fp8e4m3) (x8 : Vec F S1x16x128 .f32) (x9 : Vec F S1x257x24x128 .bf16)
    (d10 d11 d12 : Vec F S1x257x24x128 .bf16) (d13 : Vec F S257x24x128 .bf16) :
    Σ' (Y10 : Vec F S1x257x24x128 .bf16) (Y11 : Vec F S1x257x24x128 .bf16), { Y12 : Vec F S1x257x24x128 .bf16 //
      ∀ (E : Set ℕ) (K : PUnit → sProp 𝕄),
        iprop(owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare x5 ∗ owns (c : Thread nD τ) M6 fullShare x6
            ∗ owns (c : Thread nD τ) M7 fullShare x7 ∗ owns (c : Thread nD τ) M8 fullShare x8 ∗ owns (c : Thread nD τ) M9 fullShare x9
            ∗ owns (c : Thread nD τ) M10 fullShare d10 ∗ owns (c : Thread nD τ) M11 fullShare d11 ∗ owns (c : Thread nD τ) M12 fullShare d12
            ∗ owns (c : Thread nD τ) M13 fullShare d13
            ∗ (iprop(owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare x5 ∗ owns (c : Thread nD τ) M6 fullShare x6
            ∗ owns (c : Thread nD τ) M7 fullShare x7 ∗ owns (c : Thread nD τ) M8 fullShare x8 ∗ owns (c : Thread nD τ) M9 fullShare x9
            ∗ owns (c : Thread nD τ) M10 fullShare Y10 ∗ owns (c : Thread nD τ) M11 fullShare Y11 ∗ owns (c : Thread nD τ) M12 fullShare Y12
            ∗ (∃ d, owns (c : Thread nD τ) M13 fullShare d)) -∗ K ⟨⟩))
          ⊢ wp frame (wpE (defs₀ (F := F)) 𝒱₀ c none) E (cc0_mha_bwd i M1 h1 M2 h2 M3 h3 M4 h4 M5 h5 M6 h6 M7 h7 M8 h8 M9 h9 M10 h10 M11 h11 M12 h12 M13 h13) K } := by
  refine ⟨?_, ?_, ?_, fun E K => ?run⟩
  case run =>
    simp only [cc0_mha_bwd_eq_skeleton]; unfold cc0_mha_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    obtain rfl := h7.eq_unread hf7; obtain rfl := h8.eq_unread hf8; obtain rfl := h9.eq_unread hf9
    obtain rfl := h10.eq_unread hf10; obtain rfl := h11.eq_unread hf11; obtain rfl := h12.eq_unread hf12
    obtain rfl := h13.eq_unread hf13
    sl_exec_parts
    sl_step
    iapply Hk
    isplitl [H1]; · iexists _; isplitr; swap; · iexact H1
                    ipureintro; exact h1.read_unread _
    isplitl [H2]; · iexists _; isplitr; swap; · iexact H2
                    ipureintro; exact h2.read_unread _
    isplitl [H3]; · iexists _; isplitr; swap; · iexact H3
                    ipureintro; exact h3.read_unread _
    isplitl [H4]; · iexists _; isplitr; swap; · iexact H4
                    ipureintro; exact h4.read_unread _
    isplitl [H5]; · iexists _; isplitr; swap; · iexact H5
                    ipureintro; exact h5.read_unread _
    isplitl [H6]; · iexists _; isplitr; swap; · iexact H6
                    ipureintro; exact h6.read_unread _
    isplitl [H7]; · iexists _; isplitr; swap; · iexact H7
                    ipureintro; exact h7.read_unread _
    isplitl [H8]; · iexists _; isplitr; swap; · iexact H8
                    ipureintro; exact h8.read_unread _
    isplitl [H9]; · iexists _; isplitr; swap; · iexact H9
                    ipureintro; exact h9.read_unread _
    isplitl [H10]; · iexists _; isplitr; swap; · iexact H10
                     ipureintro; rfl
    isplitl [H11]; · iexists _; isplitr; swap; · iexact H11
                     ipureintro; rfl
    isplitl [H12]; · iexists _; isplitr; swap; · iexact H12
                     ipureintro; rfl
    iexists _; iexists _; isplitr; swap; · iexact H13
    ipureintro; rfl

end Cert.Proof.RunI
-- ==== Proof.FrameI.lean ====
module

public import proofs.«01_k».proof.Proof.RunI

@[expose] public section

set_option maxRecDepth 16384

noncomputable section

namespace Cert.Proof.FrameI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's block at point `t`, filled out past the array's end with arbitrary contents. -/
def filled (c : Dev nD) (w : Fin cfg0.W) (t : Fin cfg0.N) : (cfg0.win w).block.Idx → Elt F (cfg0.win w).elt :=
  (cfg0.win w).fill (cfg0.grid.coords t) (fun _ => Classical.choice inferInstance) (iblk m c w t)

/-- The outputs: the three result windows, of which the frame says nothing. -/
abbrev fgt : Fin cfg0.W → Bool := fun
  | ⟨0, _⟩ | ⟨1, _⟩ | ⟨2, _⟩ | ⟨3, _⟩ | ⟨4, _⟩ | ⟨5, _⟩ | ⟨6, _⟩ | ⟨7, _⟩ | ⟨8, _⟩ => false
  | _ => true

/-- The proof data: each input's buffer keeps its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => filled m c 1 t
    | ⟨2, _⟩ => filled m c 2 t
    | ⟨3, _⟩ => filled m c 3 t
    | ⟨4, _⟩ => filled m c 4 t
    | ⟨5, _⟩ => filled m c 5 t
    | ⟨6, _⟩ => filled m c 6 t
    | ⟨7, _⟩ => filled m c 7 t
    | ⟨8, _⟩ => filled m c 8 t
    | ⟨9, _⟩ => filled m c 9 t
    | ⟨10, _⟩ => filled m c 10 t
    | ⟨11, _⟩ => filled m c 11 t
  Φ _ := ΦA spec0 c
  q w := Pipeline.shareOf spec0 w
  owed _ := 0

/-- The array of a window is the value of its reference when the grid starts. -/
theorem A_eq (c : Dev nD) (w : Fin cfg0.W) : (dats m 0 c).A w = V m c (Pipeline.arrRef spec0 w) := by
  dsimp only [dats]

/-- After a grid step the window on the scales of the codes holds all of them. -/
theorem after_0 (c : Dev nD) (t : Fin cfg0.N) : (dats m 0 c).after 0 t = iblk m c 0 t := by dsimp only [dats]
/-- After a grid step the window on q holds its block, filled out past the end of its array. -/
theorem after_1 (c : Dev nD) (t : Fin cfg0.N) : (dats m 0 c).after 1 t = filled m c 1 t := by dsimp only [dats]
/-- After a grid step the window on k holds its block, filled out past the end of its array. -/
theorem after_2 (c : Dev nD) (t : Fin cfg0.N) : (dats m 0 c).after 2 t = filled m c 2 t := by dsimp only [dats]
/-- After a grid step the window on the first 128 columns of the codes holds its block, filled out past the end of its array. -/
theorem after_3 (c : Dev nD) (t : Fin cfg0.N) : (dats m 0 c).after 3 t = filled m c 3 t := by dsimp only [dats]
/-- After a grid step the window on the second 128 columns of the codes holds its block, filled out past the end of its array. -/
theorem after_4 (c : Dev nD) (t : Fin cfg0.N) : (dats m 0 c).after 4 t = filled m c 4 t := by dsimp only [dats]
/-- After a grid step the window on the last column of the codes holds its block, filled out past the end of its array. -/
theorem after_5 (c : Dev nD) (t : Fin cfg0.N) : (dats m 0 c).after 5 t = filled m c 5 t := by dsimp only [dats]
/-- After a grid step the window on the 8-bit values holds its block, filled out past the end of its array. -/
theorem after_6 (c : Dev nD) (t : Fin cfg0.N) : (dats m 0 c).after 6 t = filled m c 6 t := by dsimp only [dats]
/-- After a grid step the window on the scales of the values holds its block, filled out past the end of its array. -/
theorem after_7 (c : Dev nD) (t : Fin cfg0.N) : (dats m 0 c).after 7 t = filled m c 7 t := by dsimp only [dats]
/-- After a grid step the window on the output gradient holds its block, filled out past the end of its array. -/
theorem after_8 (c : Dev nD) (t : Fin cfg0.N) : (dats m 0 c).after 8 t = filled m c 8 t := by dsimp only [dats]

/-- Before a grid step the window on the scales of the codes holds all of them. -/
theorem before_0 (c : Dev nD) (t : Fin cfg0.N) (d) : (dats m 0 c).before 0 t d = iblk m c 0 t :=
  before0_0_of m (dats m 0 c) (A_eq m c 0) (after_0 m c) t d
/-- Before a grid step the window on q holds the block of its array, with what was there outside the array. -/
theorem before_1 (c : Dev nD) (t : Fin cfg0.N) (d) :
    (dats m 0 c).before 1 t d = (cfg0.win 1).fill (cfg0.grid.coords t) d (iblk m c 1 t) := by
  unfold Dat.before; rw [if_pos (fetch0_1 t)]; rfl
/-- Before a grid step the window on k holds the block of its array, with what was there outside the array. -/
theorem before_2 (c : Dev nD) (t : Fin cfg0.N) (d) :
    (dats m 0 c).before 2 t d = (cfg0.win 2).fill (cfg0.grid.coords t) d (iblk m c 2 t) := by
  unfold Dat.before; rw [if_pos (fetch0_2 t)]; rfl
/-- Before a grid step the window on the first 128 columns of the codes holds the block of its array, with what was there
outside the array. -/
theorem before_3 (c : Dev nD) (t : Fin cfg0.N) (d) :
    (dats m 0 c).before 3 t d = (cfg0.win 3).fill (cfg0.grid.coords t) d (iblk m c 3 t) := by
  unfold Dat.before; rw [if_pos (fetch0_3 t)]; rfl
/-- Before a grid step the window on the second 128 columns of the codes holds the block of its array, with what was there
outside the array. -/
theorem before_4 (c : Dev nD) (t : Fin cfg0.N) (d) :
    (dats m 0 c).before 4 t d = (cfg0.win 4).fill (cfg0.grid.coords t) d (iblk m c 4 t) := by
  unfold Dat.before; rw [if_pos (fetch0_4 t)]; rfl
/-- Before a grid step the window on the last column of the codes holds the block of its array, with what was there outside
the array. -/
theorem before_5 (c : Dev nD) (t : Fin cfg0.N) (d) :
    (dats m 0 c).before 5 t d = (cfg0.win 5).fill (cfg0.grid.coords t) d (iblk m c 5 t) := by
  unfold Dat.before; rw [if_pos (fetch0_5 t)]; rfl
/-- Before a grid step the window on the 8-bit values holds the block of its array, with what was there outside the array. -/
theorem before_6 (c : Dev nD) (t : Fin cfg0.N) (d) :
    (dats m 0 c).before 6 t d = (cfg0.win 6).fill (cfg0.grid.coords t) d (iblk m c 6 t) := by
  unfold Dat.before; rw [if_pos (fetch0_6 t)]; rfl
/-- Before a grid step the window on the scales of the values holds the block of its array, with what was there outside the
array. -/
theorem before_7 (c : Dev nD) (t : Fin cfg0.N) (d) :
    (dats m 0 c).before 7 t d = (cfg0.win 7).fill (cfg0.grid.coords t) d (iblk m c 7 t) := by
  unfold Dat.before; rw [if_pos (fetch0_7 t)]; rfl
/-- Before a grid step the window on the output gradient holds the block of its array, with what was there outside the array. -/
theorem before_8 (c : Dev nD) (t : Fin cfg0.N) (d) :
    (dats m 0 c).before 8 t d = (cfg0.win 8).fill (cfg0.grid.coords t) d (iblk m c 8 t) := by
  unfold Dat.before; rw [if_pos (fetch0_8 t)]; rfl

/-- The scoped rest is the scratch array, owned whole at some contents. -/
theorem scratch_eq (c : Dev nD) : (Pipeline.scopedRest spec0 c : sProp 𝕄)
    = iprop(∃ d : Vec F S257x24x128 .bf16, owns (c : Thread nD τ) (Memref.whole cc0_scratch0) fullShare d) := by
  rw [scopedRest0_eq]
  exact congrArg _ (funext fun f => (owns_whole (c : Thread nD τ) cc0_scratch0 fullShare f).symm)

/-- The input windows' part of what the body is called with. -/
def preIn (c : Dev nD) (t : Fin cfg0.N) (R : sProp 𝕄) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ R)

/-- The input windows' part of what it returns. -/
def postIn (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t))))
    ∗ (∃ d, owns (c : Thread nD τ) (st0_5 t) fullShare ((cfg0.win 5).fill (cfg0.grid.coords t) d ((cfg0.win 5).cut (cfg0.grid.coords t) ((dats m 0 c).after 5 t))))
    ∗ (∃ d, owns (c : Thread nD τ) (st0_6 t) fullShare ((cfg0.win 6).fill (cfg0.grid.coords t) d ((cfg0.win 6).cut (cfg0.grid.coords t) ((dats m 0 c).after 6 t))))
    ∗ (∃ d, owns (c : Thread nD τ) (st0_7 t) fullShare ((cfg0.win 7).fill (cfg0.grid.coords t) d ((cfg0.win 7).cut (cfg0.grid.coords t) ((dats m 0 c).after 7 t))))
    ∗ (∃ d, owns (c : Thread nD τ) (st0_8 t) fullShare ((cfg0.win 8).fill (cfg0.grid.coords t) d ((cfg0.win 8).cut (cfg0.grid.coords t) ((dats m 0 c).after 8 t))))
    ∗ R)

set_option maxHeartbeats 1000000 in
/-- The body at any point, with the outputs at anything before and after. -/
theorem sound_body (c : Dev nD) (t : Fin cfg0.N) :
    preIn m c t iprop((∃ X, owns (c : Thread nD τ) (st0_9 t) fullShare X) ∗ (∃ X, owns (c : Thread nD τ) (st0_10 t) fullShare X)
        ∗ (∃ X, owns (c : Thread nD τ) (st0_11 t) fullShare X))
      ⊢ wp frame (wpE (defs₀ (F := F)) Variants.none c none) Set.univ (bodyAt0 t) (fun _ =>
        postIn m c t iprop((∃ X, owns (c : Thread nD τ) (st0_9 t) fullShare X) ∗ (∃ X, owns (c : Thread nD τ) (st0_10 t) fullShare X)
        ∗ (∃ X, owns (c : Thread nD τ) (st0_11 t) fullShare X))) := by
  unfold preIn postIn bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  unfold filled
  simp only [Window.cut_fill]
  rw [show (dats m 0 c).Φ t.castSucc = ΦA spec0 c from rfl, show (ΦA spec0 c : sProp 𝕄) = iprop(Pipeline.scopedRest spec0 c ∗ ∃ r, prngReg c r) from rfl, scratch_eq c]
  iintro ⟨⟨⟨%fs, Hs⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((RunI.kernelRun c (grid0.coords t) _ _ _ _ _ _ _ _ _ _ _ _ _ _ _ _ _ _ _ _ _ _ _ _ (Memref.whole cc0_scratch0) (Memref.isWhole_whole _)
    (iblk m c 0 t) ((cfg0.win 1).fill (cfg0.grid.coords t) d1 (iblk m c 1 t)) ((cfg0.win 2).fill (cfg0.grid.coords t) d2 (iblk m c 2 t))
    ((cfg0.win 3).fill (cfg0.grid.coords t) d3 (iblk m c 3 t)) ((cfg0.win 4).fill (cfg0.grid.coords t) d4 (iblk m c 4 t))
    ((cfg0.win 5).fill (cfg0.grid.coords t) d5 (iblk m c 5 t)) ((cfg0.win 6).fill (cfg0.grid.coords t) d6 (iblk m c 6 t))
    ((cfg0.win 7).fill (cfg0.grid.coords t) d7 (iblk m c 7 t)) ((cfg0.win 8).fill (cfg0.grid.coords t) d8 (iblk m c 8 t))
    d9 d10 d11 fs).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hs]; · iexact Hs
  iintro ⟨H0, H1, H2, H3, H4, H5, H6, H7, H8, H9, H10, H11, ⟨%ds, Hs⟩⟩
  isplitl [Hs Hp]
  · isplitl [Hs]
    · iexists ds; iexact Hs
    iexact Hp
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  isplitl [H5]; · iexists d5; iexact H5
  isplitl [H6]; · iexists d6; iexact H6
  isplitl [H7]; · iexists d7; iexact H7
  isplitl [H8]; · iexists d8; iexact H8
  isplitl [H9]; · iexists _; iexact H9
  isplitl [H10]; · iexists _; iexact H10
  iexists _; iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point, the outputs forgotten. -/
theorem body_obligation (c : Dev nD) : BodyObligationLoose (dats (F := F) m 0 c) (defs₀ (F := F)) Variants.none () Set.univ fgt := fun t => by
  rw [bigSep_W0, bigSep_W0, defs₀_row]
  exact sound_body m c t

set_option backward.isDefEq.respectTransparency.types false in
set_option maxHeartbeats 800000 in
/-- The run: it terminates, the arrays of the input windows end as the region found them, and every semaphore is at zero. -/
theorem run_main : θ_run defs (onTc (τ := τ) (main (F := F))) (s₀ m ρ) (fun r => (RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := body_obligation m) (hq := fun _ _ _ => rfl)
    (howed := fun _ _ => rfl) (V := V m)
    (hmain := hmain m Variants.none) (hA := A_eq m) (hΦ := fun _ _ => rfl)

/-- THE FRAME: the program terminates without a fault, its arguments end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r (h : _ ∧ _) => ⟨fun c => ⟨(h.1.arr_in c 1 rfl).trans (V_main_arg0 m c),
      (h.1.arr_in c 2 rfl).trans (V_main_arg1 m c),
      ((h.1 c).2 main_arg2 (Pipeline.mem_restRefs_of main_arg2 (by decide) (by decide))).trans (V_main_arg2 m c),
      (h.1.arr_in c 0 rfl).trans (V_main_arg3 m c),
      (h.1.arr_in c 6 rfl).trans (V_main_arg4 m c),
      (h.1.arr_in c 7 rfl).trans (V_main_arg5 m c),
      (h.1.arr_in c 8 rfl).trans (V_main_arg6 m c)⟩, h.2⟩) (run_main m ρ)

end Cert.Proof.FrameI
-- ==== Proof.Preserves.lean ====
module

public import proofs.«01_k».proof.Defs
public import Idealize.ShloMosaic.Lib.Bf16Pair

@[expose] public section

namespace Cert.Proof

open Idealize.ShloMosaic

/-- Every rewrite of the idealization is an instance of its rule's statement. -/
theorem preserves : Cert.preserves_Kernel_KernelIdeal :=
  ⟨IdealRules.bf16_pair.statement _ _, IdealRules.bf16_pair.statement _ _, IdealRules.bf16_pair.selectZeroStatement _,
    IdealRules.bf16_pair.selectZeroStatement _, IdealRules.bf16_pair.statement _ _, IdealRules.bf16_pair.statement _ _,
    IdealRules.bf16_pair.statement _ _, IdealRules.bf16_pair.packStatement _⟩

end Cert.Proof
-- ==== Proof.Block.lean ====
module

public import proofs.«01_k».proof.Proof.Gen.KernelIdeal.Skeleton

@[expose] public section

noncomputable section

/-! What one grid point computes for one head, as functions of the arrays it loads. -/

namespace Cert.Proof.Block

open Cert.KernelIdeal Cert.KernelIdeal.Gen
open Idealize.ShloMosaic Idealize.ShloMosaic.TcCoe

variable {F : FTy → Type} [FloatOps F]

/-- One head of a loaded pair of heads: 256 rows, the last row, and zeros up to row 264. -/
def half (p : Fin 2) (a : Vec F S1x256x2x128 .bf16) (b : Vec F S1x1x2x128 .bf16) : FVec F S264x128 .bf16 :=
  have x : FVec F S256x128 .bf16 := shapeCast S256x128 (rowsOfParity p S1x256x1x128 a bitcasts_S1x256x2x128_w16_S1x256x1x128_w32) shapeCasts_S1x256x1x128_S256x128
  have y : FVec F S1x128 .bf16 := shapeCast S1x128 (rowsOfParity p S1x1x1x128 b bitcasts_S1x1x2x128_w16_S1x1x1x128_w32) shapeCasts_S1x1x1x128_S1x128
  have z : FVec F S8x128 .bf16 := concatenate S8x128 0 [⟨S1x128, y⟩, ⟨S1x128, y⟩, ⟨S1x128, y⟩, ⟨S1x128, y⟩, ⟨S1x128, y⟩, ⟨S1x128, y⟩, ⟨S1x128, y⟩, ⟨S1x128, y⟩] concatenates_S1x128_S1x128_S1x128_S1x128_S1x128_S1x128_S1x128_S1x128_S8x128_d0
  have w : FVec F S8x128 .bf16 := select k0_pay6 z (constant S8x128 .bf16 0x0000#16)
  concatenate S264x128 0 [⟨S256x128, x⟩, ⟨S8x128, w⟩] concatenates_S256x128_S8x128_S264x128_d0

/-- The same of the scaled values kept in the scratch array. -/
def halfS (p : Fin 2) (a : Vec F S256x2x128 .bf16) (b : Vec F S1x2x128 .bf16) : FVec F S264x128 .bf16 :=
  have x : FVec F S256x128 .bf16 := shapeCast S256x128 (rowsOfParity p S256x1x128 a bitcasts_S256x2x128_w16_S256x1x128_w32) shapeCasts_S256x1x128_S256x128
  have y : FVec F S1x128 .bf16 := shapeCast S1x128 (rowsOfParity p S1x1x128 b bitcasts_S1x2x128_w16_S1x1x128_w32) shapeCasts_S1x1x128_S1x128
  have z : FVec F S8x128 .bf16 := concatenate S8x128 0 [⟨S1x128, y⟩, ⟨S1x128, y⟩, ⟨S1x128, y⟩, ⟨S1x128, y⟩, ⟨S1x128, y⟩, ⟨S1x128, y⟩, ⟨S1x128, y⟩, ⟨S1x128, y⟩] concatenates_S1x128_S1x128_S1x128_S1x128_S1x128_S1x128_S1x128_S1x128_S8x128_d0
  have w : FVec F S8x128 .bf16 := select k0_pay6 z (constant S8x128 .bf16 0x0000#16)
  concatenate S264x128 0 [⟨S256x128, x⟩, ⟨S8x128, w⟩] concatenates_S256x128_S8x128_S264x128_d0

/-- The lanes past the 88th set to zero. -/
def masked (x : FVec F S264x128 .bf16) : FVec F S264x128 .bf16 :=
  select (broadcastTo S264x128 (shapeCast S1x128 k0_pay7 shapeCasts_S1x128_S1x128) broadcasts_S1x128_S264x128) x (constant S264x128 .bf16 0x0000#16)

/-- Widened and rounded back. -/
def roundTrip (x : FVec F S264x128 .bf16) : FVec F S264x128 .bf16 :=
  have y : FVec F S264x128 .f32 := extf .f32 x
  truncf .bf16 y bitsLt_bf16_f32

/-- Quarter `q` of one lane block of the codes, four heads to a word, with zeros up to row 264. -/
def words (off off' : Fin 3 → ℕ) (hs : S257x4x128.Slices off S256x1x128) (hs' : S257x4x128.Slices off' S1x1x128)
    (x : Vec F S1x257x16x128 .i8) : IVec S264x128 32 :=
  have v117 : IVec S257x16x128 8 := shapeCast S257x16x128 x shapeCasts_S1x257x16x128_S257x16x128
  have v118 : IVec S257x4x128 32 := bitcast S257x4x128 32 v117 bitcasts_S257x16x128_w8_S257x4x128_w32
  have v119 : IVec S256x1x128 32 := extractStridedSlice S256x1x128 off v118 hs
  have v120 : IVec S256x128 32 := shapeCast S256x128 v119 shapeCasts_S256x1x128_S256x128
  have v121 : IVec S1x1x128 32 := extractStridedSlice S1x1x128 off' v118 hs'
  have v122 : IVec S1x128 32 := shapeCast S1x128 v121 shapeCasts_S1x1x128_S1x128
  have v123 : IVec S1x128 32 := shapeCast S1x128 v122 shapeCasts_S1x128_S1x128
  have v124 : IVec S8x128 32 := broadcastTo S8x128 v123 broadcasts_S1x128_S8x128
  have v125 : IVec S8x128 32 := broadcast S8x128 0#32
  have v126 : IVec S8x128 32 := select k0_pay6 v124 v125
  concatenate S264x128 0 [⟨S256x128, v120⟩, ⟨S8x128, v126⟩] concatenates_S256x128_S8x128_S264x128_d0

/-- All lanes but the first set to zero. -/
def firstLane (x : IVec S264x128 32) : IVec S264x128 32 :=
  have v3 : IVec S1x128 32 := iota .tc S1x128 32 [1] iota_S1x128_d1_w32
  have v142 : IVec S1x128 32 := broadcast S1x128 0#32
  have v143 : IVec S1x128 1 := cmpi .eq v3 v142
  have v144 : IVec S1x128 1 := shapeCast S1x128 v143 shapeCasts_S1x128_S1x128
  have v145 : IVec S264x128 1 := broadcastTo S264x128 v144 broadcasts_S1x128_S264x128
  have v146 : IVec S264x128 32 := broadcast S264x128 0#32
  select v145 x v146

/-- One signed byte of each word, as a number. -/
def code (sr sl : BitVec 32) (w : IVec S264x128 32) : FVec F S264x128 .f32 :=
  have w' : IVec S264x128 32 := shrsi w (broadcast S264x128 sr)
  have y : IVec S264x128 32 := shli w' (broadcast S264x128 sl)
  have z : IVec S264x128 32 := shrsi y (broadcast S264x128 24#32)
  sitofp .f32 z

/-- One head's codes: 264 rows by 384 columns. -/
def codes (sr sl : BitVec 32) (w0 w1 w2 : IVec S264x128 32) : FVec F S264x384 .f32 :=
  concatenate S264x384 1 [⟨S264x128, code (F := F) sr sl w0⟩, ⟨S264x128, code (F := F) sr sl w1⟩, ⟨S264x128, code (F := F) sr sl (firstLane w2)⟩] concatenates_S264x128_S264x128_S264x128_S264x384_d1

/-- Rows 264 to 384 filled with zeros. -/
def padded (x : FVec F S264x128 .bf16) : FVec F S384x128 .bf16 :=
  have cst : F .bf16 := Scalar.ofBits .bf16 0x0000#16
  have z : FVec F S120x128 .bf16 := broadcast S120x128 cst
  concatenate S384x128 0 [⟨S264x128, x⟩, ⟨S120x128, z⟩] concatenates_S264x128_S120x128_S384x128_d0

/-- The gradient of one head's scores. -/
def ds (g v : FVec F S264x128 .bf16) (cd : FVec F S264x384 .f32) (sc : Elt F .f32) : FVec F S264x384 .bf16 :=
  have v167 : FVec F S264x384 .f32 := broadcast S264x384 sc
  have v168 : FVec F S264x384 .f32 := mulf cd v167
  have cst_81 : FVec F S264x384 .f32 := constant S264x384 .f32 0x00000000#32
  have v172 : FVec F S264x384 .f32 := matmul dot_S264x128_S384x128_S264x384_1_1_0_0_n_n none g (padded v) cst_81
  have v177 : FVec F S264x384 .f32 := mulf v172 v168
  have v178 : FVec F S264 .f32 := multiReduction .add [1] S264 v177 0x00000000#32 reduces_S264x384_S264 (.inl rfl) rfl
  have v179 : FVec F S264x1 .f32 := shapeCast S264x1 v178 shapeCasts_S264_S264x1
  have v180 : FVec F S264x384 .f32 := broadcastTo S264x384 v179 broadcasts_S264x1_S264x384
  have v181 : FVec F S264x384 .f32 := subf v172 v180
  have v182 : FVec F S264x384 .f32 := mulf v168 v181
  truncf .bf16 v182 bitsLt_bf16_f32

/-- One head's query gradient. -/
def dq (s : FVec F S264x384 .bf16) (k : FVec F S264x128 .bf16) : FVec F S264x128 .bf16 :=
  have cst_84 : FVec F S264x128 .f32 := constant S264x128 .f32 0x00000000#32
  have v184 : FVec F S264x128 .f32 := matmul dot_S264x384_S384x128_S264x128_1_0_0_1_n_n none s (padded k) cst_84
  have cst_85 : F .f32 := Scalar.ofBits .f32 0x3DDA514A#32
  have v185 : FVec F S264x128 .f32 := broadcast S264x128 cst_85
  have v186 : FVec F S264x128 .f32 := mulf v185 v184
  truncf .bf16 v186

/-- One head's key gradient. -/
def dk (s : FVec F S264x384 .bf16) (q : FVec F S264x128 .bf16) : FVec F S264x128 .bf16 :=
  have cst_86 : FVec F S384x128 .f32 := constant S384x128 .f32 0x00000000#32
  have v187 : FVec F S384x128 .f32 := matmul dot_S264x384_S264x128_S384x128_0_0_1_1_n_n none s q cst_86
  have cst_87 : F .f32 := Scalar.ofBits .f32 0x3DDA514A#32
  have v188 : FVec F S384x128 .f32 := broadcast S384x128 cst_87
  have v189 : FVec F S384x128 .f32 := mulf v188 v187
  have v190 : FVec F S264x128 .f32 := extractStridedSlice S264x128 ![0, 0] v189 slices_S384x128_o0_0_S264x128
  truncf .bf16 v190

/-- One head's value gradient. -/
def dv (cd : FVec F S264x384 .f32) (g : FVec F S264x128 .bf16) (sc : Elt F .f32) : FVec F S264x128 .bf16 :=
  have v173 : FVec F S264x384 .bf16 := truncf .bf16 cd bitsLt_bf16_f32
  have cst_82 : FVec F S384x128 .f32 := constant S384x128 .f32 0x00000000#32
  have v174 : FVec F S384x128 .f32 := matmul dot_S264x384_S264x128_S384x128_0_0_1_1_n_n none v173 g cst_82
  have v175 : FVec F S384x128 .f32 := broadcast S384x128 sc
  have v176 : FVec F S384x128 .f32 := mulf v175 v174
  have v191 : FVec F S264x128 .f32 := extractStridedSlice S264x128 ![0, 0] v176 slices_S384x128_o0_0_S264x128
  truncf .bf16 v191

/-- What is stored of a pair of heads at the first 256 rows. -/
def outMain (x y : FVec F S264x128 .bf16) : Vec F S1x256x2x128 .bf16 :=
  have a : FVec F S256x128 .bf16 := extractStridedSlice S256x128 ![0, 0] x slices_S264x128_o0_0_S256x128
  have b : FVec F S256x128 .bf16 := extractStridedSlice S256x128 ![0, 0] y slices_S264x128_o0_0_S256x128
  interleaveRows S1x256x2x128 (shapeCast S1x256x1x128 a shapeCasts_S256x128_S1x256x1x128) (shapeCast S1x256x1x128 b shapeCasts_S256x128_S1x256x1x128) bitcasts_S1x256x2x128_w16_S1x256x1x128_w32

/-- What is stored of a pair of heads at the last row. -/
def outLast (x y : FVec F S264x128 .bf16) : Vec F S1x1x2x128 .bf16 :=
  have a : FVec F S1x128 .bf16 := extractStridedSlice S1x128 ![256, 0] x slices_S264x128_o256_0_S1x128
  have b : FVec F S1x128 .bf16 := extractStridedSlice S1x128 ![256, 0] y slices_S264x128_o256_0_S1x128
  interleaveRows S1x1x2x128 (shapeCast S1x1x1x128 a shapeCasts_S1x128_S1x1x1x128) (shapeCast S1x1x1x128 b shapeCasts_S1x128_S1x1x1x128) bitcasts_S1x1x2x128_w16_S1x1x1x128_w32

end Cert.Proof.Block
-- ==== Proof.Spec.lean ====
module

public import Idealize.ShloMosaic.Lib.Pointwise

@[expose] public section

noncomputable section

/-! The gradients of one head of one batch element, over the extended reals: `g` the output gradient, `v` the scaled values,
    `C` the codes of the attention weights and `s` their scale. -/

namespace Cert.Proof.Spec

open Idealize.ShloMosaic

/-- The scale of the queries' product with the keys. -/
abbrev κ : EReal := Ideal.ofBits .f32 0x3DDA514A#32

/-- The gradient of the weights. -/
def dp (g v : Fin 257 → Fin 88 → EReal) (r c : Fin 257) : EReal := ∑ d, g r d * v c d

/-- The gradient of the scores. -/
def ds (g v : Fin 257 → Fin 88 → EReal) (C : Fin 257 → Fin 257 → EReal) (s : EReal) (r c : Fin 257) : EReal :=
  C r c * s * (dp g v r c - ∑ c', dp g v r c' * (C r c' * s))

/-- The gradient of one column of the queries, `k` that column of the keys. -/
def dq (g v : Fin 257 → Fin 88 → EReal) (C : Fin 257 → Fin 257 → EReal) (s : EReal) (k : Fin 257 → EReal) (r : Fin 257) : EReal :=
  κ * ∑ c, ds g v C s r c * k c

/-- The gradient of one column of the keys, `q` that column of the queries. -/
def dk (g v : Fin 257 → Fin 88 → EReal) (C : Fin 257 → Fin 257 → EReal) (s : EReal) (q : Fin 257 → EReal) (c : Fin 257) : EReal :=
  κ * ∑ r, ds g v C s r c * q r

/-- The gradient of one column of the values, `g` that column of the output gradient. -/
def dv (C : Fin 257 → Fin 257 → EReal) (s : EReal) (g : Fin 257 → EReal) (c : Fin 257) : EReal :=
  s * ∑ r, C r c * g r

end Cert.Proof.Spec
-- ==== Proof.Vals.lean ====
module

public import proofs.«01_k».proof.Proof.Block
public import proofs.«01_k».proof.Proof.Spec
public import Idealize.ShloMosaic.Lib.Pointwise

@[expose] public section

noncomputable section

/-! The block functions read at an index, over the extended reals. -/

namespace Cert.Proof.Vals

open Cert.KernelIdeal Cert.KernelIdeal.Gen Cert.Proof.Block
open Cert.Proof.Spec (κ)
open Idealize.ShloMosaic Idealize.ShloMosaic.TcCoe

/-- A sum whose terms vanish from `m` on is the sum of the first `m`. -/
theorem sum_trunc {n m : ℕ} (h : m ≤ n) (f : Fin n → EReal) (h0 : ∀ i : Fin n, m ≤ i.val → f i = 0) :
    ∑ i, f i = ∑ i : Fin m, f (Fin.castLE h i) := by
  obtain ⟨k, rfl⟩ := Nat.exists_eq_add_of_le h
  rw [Fin.sum_univ_add, Finset.sum_eq_zero (s := Finset.univ) (f := fun i : Fin k => f (Fin.natAdd m i))
    (fun i _ => h0 _ (Nat.le_add_right _ _)), add_zero]
  rfl

/-- The row mask is true in the first of its eight rows only. -/
theorem pay6_apply (r : Fin 8) (d : Fin 128) : k0_pay6 (ix2 r d) = if r.val = 0 then 1#1 else 0#1 := by
  pointwise [k0_pay6]
  fin_cases r <;> rfl

/-- A choice by the lane mask takes its first value in the first 88 lanes and its second in the others. -/
theorem select_lt88 (d : Fin 128) (x y : EReal) :
    Scalar.select (IntOp.cmpi CmpIPredicate.slt (BitVec.ofNat 32 d.val) 88#32) x y = if d.val < 88 then x else y := by
  have h : IntOp.cmpi CmpIPredicate.slt (BitVec.ofNat 32 d.val) 88#32 = if d.val < 88 then 1#1 else 0#1 := by
    revert d; decide
  rw [h]
  by_cases hd : d.val < 88 <;> simp [hd, Scalar.select]

/-- The last rows of a head: row 256, and zeros past it. -/
theorem select_last {α : Type} (r : Fin 264) (h : ¬r.val < 256) (d : Fin 128) (x y : α) :
    Scalar.select (k0_pay6 (ix2 ⟨r.val - 256, by omega⟩ d)) x y = if r.val = 256 then x else y := by
  rw [pay6_apply]
  by_cases hr : r.val = 256
  · simp [hr, Scalar.select]
  · have : r.val - 256 ≠ 0 := by omega
    simp [hr, this, Scalar.select]

/-- One half of the words of a block: the first 256 rows, then row 256, then zeros. -/
theorem half_apply (p : Fin 2) (a : Vec Ideal S1x256x2x128 .bf16) (b : Vec Ideal S1x1x2x128 .bf16) (r : Fin 264) (d : Fin 128) :
    half p a b (ix2 r d) = if h : r.val < 256 then a (ix4 0 ⟨r.val, h⟩ p d) else if r.val = 256 then b (ix4 0 0 p d) else 0 := by
  pointwise [half]
  split_ifs <;> first | rfl | (rw [select_last _ (by assumption)]; simp [*])

/-- One half of the words of the scratch array: the first 256 rows, then row 256, then zeros. -/
theorem halfS_apply (p : Fin 2) (a : Vec Ideal S256x2x128 .bf16) (b : Vec Ideal S1x2x128 .bf16) (r : Fin 264) (d : Fin 128) :
    halfS p a b (ix2 r d) = if h : r.val < 256 then a (ix3 ⟨r.val, h⟩ p d) else if r.val = 256 then b (ix3 0 p d) else 0 := by
  pointwise [halfS]
  split_ifs <;> first | rfl | (rw [select_last _ (by assumption)]; simp [*])

/-- The masked block keeps its first 88 lanes and is zero in the others. -/
theorem masked_apply (x : FVec Ideal S264x128 .bf16) (r : Fin 264) (d : Fin 128) :
    masked x (ix2 r d) = if d.val < 88 then x (ix2 r d) else 0 := by
  pointwise [masked, k0_pay7]
  exact select_lt88 _ _ _

/-- Widening a block and narrowing it again leaves it as it was, over the extended reals. -/
theorem roundTrip_eq (x : FVec Ideal S264x128 .bf16) : roundTrip x = x := by
  funext i
  pointwise [roundTrip]

/-- The padded block is the block in its first 264 rows and zero in the others. -/
theorem padded_apply (x : FVec Ideal S264x128 .bf16) (r : Fin 384) (d : Fin 128) :
    padded x (ix2 r d) = if h : r.val < 264 then x (ix2 ⟨r.val, h⟩ d) else 0 := by
  pointwise [padded]

/-- An element of the score gradient: the scaled code times the score product less the row sum of these products weighted by the scaled codes. -/
theorem ds_apply (g v : FVec Ideal S264x128 .bf16) (cd : FVec Ideal S264x384 .f32) (sc : Elt Ideal .f32) (r : Fin 264) (c : Fin 384) :
    ds g v cd sc (ix2 r c) = cd (ix2 r c) * sc * ((∑ d : Fin 128, g (ix2 r d) * padded v (ix2 c d))
      - ∑ c' : Fin 384, (∑ d : Fin 128, g (ix2 r d) * padded v (ix2 c' d)) * (cd (ix2 r c') * sc)) := by
  unfold ds
  generalize padded v = w
  pointwise

/-- An element of the query gradient as a scaled sum over the padded columns. -/
theorem dq_apply (s : FVec Ideal S264x384 .bf16) (k : FVec Ideal S264x128 .bf16) (r : Fin 264) (d : Fin 128) :
    dq s k (ix2 r d) = κ * ∑ c : Fin 384, s (ix2 r c) * padded k (ix2 c d) := by
  unfold dq
  generalize padded k = w
  pointwise

/-- An element of the key gradient as a scaled sum over the padded rows. -/
theorem dk_apply (s : FVec Ideal S264x384 .bf16) (q : FVec Ideal S264x128 .bf16) (c : Fin 264) (d : Fin 128) :
    dk s q (ix2 c d) = κ * ∑ r : Fin 264, s (ix2 r ⟨c.val, by omega⟩) * q (ix2 r d) := by
  unfold dk
  pointwise

/-- An element of the value gradient as a scaled sum over the padded rows. -/
theorem dv_apply (cd : FVec Ideal S264x384 .f32) (g : FVec Ideal S264x128 .bf16) (sc : Elt Ideal .f32) (c : Fin 264) (d : Fin 128) :
    dv cd g sc (ix2 c d) = sc * ∑ r : Fin 264, cd (ix2 r ⟨c.val, by omega⟩) * g (ix2 r d) := by
  unfold dv
  pointwise

/-- The first 256 rows packed for a pair of heads hold the one head and the other side by side. -/
theorem outMain_apply (x y : FVec Ideal S264x128 .bf16) (r : Fin 256) (p : Fin 2) (d : Fin 128) :
    outMain x y (ix4 0 r p d) = if p = 0 then x (ix2 ⟨r.val, by omega⟩ d) else y (ix2 ⟨r.val, by omega⟩ d) := by
  pointwise [outMain]
  fin_cases p <;> rfl

/-- The last row packed for a pair of heads holds the one head and the other side by side. -/
theorem outLast_apply (x y : FVec Ideal S264x128 .bf16) (p : Fin 2) (d : Fin 128) :
    outLast x y (ix4 0 0 p d) = if p = 0 then x (ix2 256 d) else y (ix2 256 d) := by
  pointwise [outLast]
  fin_cases p <;> rfl

/-- A word of codes in its first 257 rows is made of the four codes of its heads, and it is zero in the others. -/
theorem words_apply (q : ℕ) (hq : q < 4) (hs : S257x4x128.Slices ![0, q, 0] S256x1x128) (hs' : S257x4x128.Slices ![256, q, 0] S1x1x128)
    (x : Vec Ideal S1x257x16x128 .i8) (r : Fin 264) (l : Fin 128) :
    words (F := Ideal) ![0, q, 0] ![256, q, 0] hs hs' x (ix2 r l) = if h : r.val < 257 then
      bitcast S257x4x128 32 (fun i => x (ix4 0 (i 0) (i 1) (i 2))) bitcasts_S257x16x128_w8_S257x4x128_w32 (ix3 ⟨r.val, h⟩ ⟨q, hq⟩ l) else 0#32 := by
  have e : shapeCast S257x16x128 x shapeCasts_S1x257x16x128_S257x16x128 = fun i => x (ix4 0 (i 0) (i 1) (i 2)) := by
    funext i
    pointwise
  unfold words
  rw [e]
  generalize bitcast S257x4x128 32 (fun i => x (ix4 0 (i 0) (i 1) (i 2))) bitcasts_S257x16x128_w8_S257x4x128_w32 = w
  pointwise
  by_cases h : r.val < 256
  · have h' : r.val < 257 := by omega
    simp only [h, h', dif_pos]
  · rw [dif_neg h, select_last r h]
    by_cases hr : r.val = 256
    · have h' : r.val < 257 := by omega
      have e' : (256 : Fin 257) = ⟨r.val, h'⟩ := Fin.ext hr.symm
      rw [if_pos hr, dif_pos h', e']
    · rw [if_neg hr, dif_neg (by omega)]

/-- The words masked to the first lane are kept in that lane and zero in the others. -/
theorem firstLane_apply (x : IVec S264x128 32) (r : Fin 264) (l : Fin 128) : firstLane x (ix2 r l) = if l.val = 0 then x (ix2 r l) else 0#32 := by
  pointwise [firstLane]
  have h : IntOp.cmpi CmpIPredicate.eq (BitVec.ofNat 32 l.val) 0#32 = if l.val = 0 then 1#1 else 0#1 := by
    revert l; decide
  rw [h]
  by_cases hd : l.val = 0 <;> simp [hd, Scalar.select]

/-- The signed byte a head's shifts take from a word. -/
def byte (sr sl w : BitVec 32) : BitVec 32 :=
  IntOp.shrsi ArithUnit.vector (IntOp.shli ArithUnit.vector (IntOp.shrsi ArithUnit.vector w sr) sl) 24#32

/-- A code is the whole number its byte of the word stands for. -/
theorem code_apply (sr sl : BitVec 32) (w : IVec S264x128 32) (r : Fin 264) (l : Fin 128) :
    code (F := Ideal) sr sl w (ix2 r l) = (((byte sr sl (w (ix2 r l))).toInt : ℝ) : EReal) := by
  pointwise [code]
  rfl

/-- The word zero holds only zero bytes. -/
theorem byte_zero (e p : Fin 2) : byte (BitVec.ofNat 32 (16 * e.val)) (BitVec.ofNat 32 (24 - 8 * p.val)) 0#32 = 0#32 := by
  revert e p; decide

/-- Byte `2 e + p` of a word, with its sign. -/
theorem byte_eq (e p : Fin 2) (w : BitVec 32) (b : BitVec 8)
    (h : ∀ i : ℕ, i < 8 → w.getLsbD (8 * (2 * e.val + p.val) + i) = b.getLsbD i) :
    byte (BitVec.ofNat 32 (16 * e.val)) (BitVec.ofNat 32 (24 - 8 * p.val)) w = b.signExtend 32 := by
  have h0 := h 0 (by decide); have h1 := h 1 (by decide); have h2 := h 2 (by decide); have h3 := h 3 (by decide)
  have h4 := h 4 (by decide); have h5 := h 5 (by decide); have h6 := h 6 (by decide); have h7 := h 7 (by decide)
  clear h
  apply BitVec.eq_of_getLsbD_eq
  intro i hi
  have hm : b.msb = b.getLsbD 7 := by rw [BitVec.msb_eq_getLsbD_last]
  fin_cases e <;> fin_cases p <;>
    simp [byte, IntOp.shrsi, IntOp.shli, BitVec.getLsbD_sshiftRight, BitVec.getLsbD_signExtend, BitVec.getLsbD_shiftLeft, BitVec.msb_eq_getLsbD_last] at h0 h1 h2 h3 h4 h5 h6 h7 ⊢ <;>
    interval_cases i <;> simp_all [BitVec.getElem_sshiftRight, BitVec.msb_eq_getLsbD_last]

/-- The codes of a head: 128 columns out of each of the three words, side by side. -/
theorem codes_apply (sr sl : BitVec 32) (w0 w1 w2 : IVec S264x128 32) (r : Fin 264) (c : Fin 384) :
    codes (F := Ideal) sr sl w0 w1 w2 (ix2 r c) = if h : c.val < 128 then code (F := Ideal) sr sl w0 (ix2 r ⟨c.val, h⟩)
      else if h : c.val < 256 then code (F := Ideal) sr sl w1 (ix2 r ⟨c.val - 128, by omega⟩)
      else code (F := Ideal) sr sl (firstLane w2) (ix2 r ⟨c.val - 256, by omega⟩) := by
  unfold codes
  generalize code (F := Ideal) sr sl w0 = a
  generalize code (F := Ideal) sr sl w1 = b
  generalize code (F := Ideal) sr sl (firstLane w2) = d
  pointwise
  by_cases h : c.val < 128
  · simp only [h, dif_pos]
  · by_cases h' : c.val < 256
    · have h'' : c.val - 128 < 128 := by omega
      simp only [h, h', h'', dif_pos, dif_neg, not_false_eq_true]
    · have h'' : ¬c.val - 128 < 128 := by omega
      simp only [h, h', h'', dif_neg, not_false_eq_true]
      exact congrArg d (congrArg (ix2 r) (Fin.ext (by show c.val - 128 - 128 = c.val - 256; omega)))

end Cert.Proof.Vals
-- ==== Proof.BlockVals.lean ====
module

public import proofs.«01_k».proof.Proof.Vals
public import proofs.«01_k».proof.Proof.Spec

@[expose] public section

noncomputable section

/-! The block functions compute the gradients: the rows, columns and lanes past the arrays' own hold zeros, and zeros add nothing. -/

namespace Cert.Proof.BlockVals

open Cert.KernelIdeal Cert.KernelIdeal.Gen Cert.Proof.Block Cert.Proof.Vals
open Cert.Proof.Spec (κ)
open Idealize.ShloMosaic Idealize.ShloMosaic.TcCoe

/-- The first 257 rows and 88 lanes are `G`, the rest zero. -/
def Cut (g : FVec Ideal S264x128 .bf16) (G : Fin 257 → Fin 88 → EReal) : Prop :=
  ∀ (r : Fin 264) (d : Fin 128), g (ix2 r d) = if h : r.val < 257 ∧ d.val < 88 then G ⟨r.val, h.1⟩ ⟨d.val, h.2⟩ else 0

/-- The first 257 rows are `K`, the rest zero. -/
def CutRows (k : FVec Ideal S264x128 .bf16) (K : Fin 257 → Fin 128 → EReal) : Prop :=
  ∀ (r : Fin 264) (d : Fin 128), k (ix2 r d) = if h : r.val < 257 then K ⟨r.val, h⟩ d else 0

/-- The first 257 rows and columns are `C`, the rest zero. -/
def CutCols {φ : FTy} (s : FVec Ideal S264x384 φ) (C : Fin 257 → Fin 257 → EReal) : Prop :=
  ∀ (r : Fin 264) (c : Fin 384), s (ix2 r c) = if h : r.val < 257 ∧ c.val < 257 then C ⟨r.val, h.1⟩ ⟨c.val, h.2⟩ else 0

variable {g v : FVec Ideal S264x128 .bf16} {cd : FVec Ideal S264x384 .f32} {k : FVec Ideal S264x128 .bf16} {s : FVec Ideal S264x384 .bf16}
  {G V : Fin 257 → Fin 88 → EReal} {C S : Fin 257 → Fin 257 → EReal} {K : Fin 257 → Fin 128 → EReal}

/-- The padded rows of a cut block. -/
theorem padded_cut (hv : Cut v V) (c : Fin 384) (hc : c.val < 257) (d : Fin 128) (hd : d.val < 88) :
    padded v (ix2 c d) = V ⟨c.val, hc⟩ ⟨d.val, hd⟩ := by
  rw [padded_apply, dif_pos (show c.val < 264 by omega), hv, dif_pos ⟨hc, hd⟩]

/-- A padded block whose first 257 rows are K is K on those rows and zero on the rows added. -/
theorem padded_cutRows (hk : CutRows k K) (c : Fin 384) (d : Fin 128) :
    padded k (ix2 c d) = if h : c.val < 257 then K ⟨c.val, h⟩ d else 0 := by
  rw [padded_apply]
  by_cases h : c.val < 264
  · rw [dif_pos h, hk]
  · rw [dif_neg h, dif_neg (by omega)]

/-- A row of the output gradient against a row of the values. -/
theorem dot_eq (hg : Cut g G) (hv : Cut v V) (r : Fin 264) (c : Fin 384) (hr : r.val < 257) (hc : c.val < 257) :
    ∑ d : Fin 128, g (ix2 r d) * padded v (ix2 c d) = Spec.dp G V ⟨r.val, hr⟩ ⟨c.val, hc⟩ := by
  rw [sum_trunc (show 88 ≤ 128 by decide)]
  · refine Finset.sum_congr rfl fun d _ => ?_
    rw [hg, dif_pos ⟨hr, d.isLt⟩, padded_cut hv c hc _ d.isLt]
    rfl
  · intro d hd
    rw [hg, dif_neg (by omega), zero_mul]

/-- Over blocks that are zero outside the real rows and columns, the score gradient is the one of the specification, and
zero past its last column. -/
theorem ds_eq (hg : Cut g G) (hv : Cut v V) (hc : CutCols cd C) (sc : Elt Ideal .f32) : CutCols (ds g v cd sc) (Spec.ds G V C sc) := by
  intro r c
  rw [ds_apply, hc]
  by_cases h : r.val < 257 ∧ c.val < 257
  · rw [dif_pos h, dif_pos h, dot_eq hg hv r c h.1 h.2, sum_trunc (show 257 ≤ 384 by decide)]
    · refine congrArg (fun z => C _ _ * sc * (_ - z)) (Finset.sum_congr rfl fun c' _ => ?_)
      rw [dot_eq hg hv r _ h.1 c'.isLt, hc, dif_pos ⟨h.1, c'.isLt⟩]
      rfl
    · intro c' hc'
      rw [hc, dif_neg (by omega), zero_mul, mul_zero]
  · rw [dif_neg h, dif_neg h, zero_mul, zero_mul]

/-- On the real rows, the query gradient is the scaled sum over the 257 real columns. -/
theorem dq_eq (hs : CutCols s S) (hk : CutRows k K) (r : Fin 264) (hr : r.val < 257) (d : Fin 128) :
    dq s k (ix2 r d) = κ * ∑ c, S ⟨r.val, hr⟩ c * K c d := by
  rw [dq_apply, sum_trunc (show 257 ≤ 384 by decide)]
  · refine congrArg _ (Finset.sum_congr rfl fun c _ => ?_)
    rw [hs, dif_pos ⟨hr, c.isLt⟩, padded_cutRows hk]
    simp
  · intro c hc
    rw [hs, dif_neg (by omega), zero_mul]

/-- On the real rows, the key gradient is the scaled sum over the 257 real rows of the score gradient. -/
theorem dk_eq (hs : CutCols s S) (hk : CutRows k K) (c : Fin 264) (hc : c.val < 257) (d : Fin 128) :
    dk s k (ix2 c d) = κ * ∑ r, S r ⟨c.val, hc⟩ * K r d := by
  rw [dk_apply, sum_trunc (show 257 ≤ 264 by decide)]
  · refine congrArg _ (Finset.sum_congr rfl fun r _ => ?_)
    rw [hs, dif_pos ⟨r.isLt, hc⟩, hk]
    simp
  · intro r hr
    rw [hs, dif_neg (by omega), zero_mul]

/-- On the real rows, the value gradient is the one of the specification, with zeros in the lanes past the 88th. -/
theorem dv_eq (hc : CutCols cd C) (hg : Cut g G) (sc : Elt Ideal .f32) (c : Fin 264) (hcc : c.val < 257) (d : Fin 128) :
    dv cd g sc (ix2 c d) = Spec.dv C sc (fun r => if h : d.val < 88 then G r ⟨d.val, h⟩ else 0) ⟨c.val, hcc⟩ := by
  rw [dv_apply, sum_trunc (show 257 ≤ 264 by decide)]
  · refine congrArg _ (Finset.sum_congr rfl fun r _ => ?_)
    rw [hc, dif_pos ⟨r.isLt, hcc⟩, hg]
    refine congrArg (C _ _ * ·) ?_
    by_cases h : d.val < 88
    · rw [dif_pos ⟨r.isLt, h⟩]; simp [h]
    · rw [dif_neg (by omega)]; simp [h]
  · intro r hr
    rw [hc, dif_neg (by omega), zero_mul]

end Cert.Proof.BlockVals
-- ==== Proof.Head.lean ====
module

public import proofs.«01_k».proof.Proof.Block
public import Idealize.ShloMosaic.Lib.Pipeline.FrameBody

@[expose] public section

noncomputable section

/-! What the body stores of one pair of heads, as functions of the blocks the grid point holds. -/

namespace Cert.Proof.Head

open Cert.KernelIdeal Cert.KernelIdeal.Gen Cert.Proof.Block
open Idealize.ShloMosaic Idealize.ShloMosaic.TcCoe

variable {F : FTy → Type} [FloatOps F]

/-- The blocks of one grid point: the scales, queries, keys, output gradients, the three lane blocks of the codes,
    and the scaled values. -/
structure Ins (F : FTy → Type) where
  sc : Vec F S16 .f32
  q : Vec F S1x257x24x128 .bf16
  k : Vec F S1x257x24x128 .bf16
  g : Vec F S1x257x24x128 .bf16
  c0 : Vec F S1x257x16x128 .i8
  c1 : Vec F S1x257x16x128 .i8
  c2 : Vec F S1x257x16x128 .i8
  v : Vec F S257x24x128 .bf16

/-- The pair of heads `o`, `o + 1`: its quarter of the code words and the shift that brings its half word down. -/
structure Pair (o q : ℕ) (sr : BitVec 32) : Prop where
  ho : o + 2 ≤ 16
  hq : q < 4
  hsr : ∃ e < 2, sr = BitVec.ofNat 32 (16 * e) ∧ o = 4 * q + 2 * e

variable {o q : ℕ} {sr : BitVec 32}

/-- The first 256 rows of two neighbouring heads lie inside a block. -/
theorem inbMain (P : Pair o q sr) : ∀ a, (![0, 0, o, 0] : Fin 4 → ℕ) a + S1x256x2x128.size a ≤ S1x257x24x128.size a := by
  have := P.ho
  intro a; fin_cases a <;> simp <;> omega

/-- The last row of two neighbouring heads lies inside a block. -/
theorem inbLast (P : Pair o q sr) : ∀ a, (![0, 256, o, 0] : Fin 4 → ℕ) a + S1x1x2x128.size a ≤ S1x257x24x128.size a := by
  have := P.ho
  intro a; fin_cases a <;> simp <;> omega

/-- The first 256 rows of two neighbouring heads lie inside the scratch array. -/
theorem inbMainS (P : Pair o q sr) : ∀ a, (![0, o, 0] : Fin 3 → ℕ) a + S256x2x128.size a ≤ S257x24x128.size a := by
  have := P.ho
  intro a; fin_cases a <;> simp <;> omega

/-- The last row of two neighbouring heads lies inside the scratch array. -/
theorem inbLastS (P : Pair o q sr) : ∀ a, (![256, o, 0] : Fin 3 → ℕ) a + S1x2x128.size a ≤ S257x24x128.size a := by
  have := P.ho
  intro a; fin_cases a <;> simp <;> omega

/-- The scale of a head lies inside the array of scales. -/
theorem inbScale {j : ℕ} (hj : j < 16) : ∀ a, (![j] : Fin 1 → ℕ) a + S1.size a ≤ S16.size a := by
  intro a; fin_cases a; simp; omega

/-- The first 256 rows of one word of codes are a slice of all the words. -/
theorem slMain (P : Pair o q sr) : S257x4x128.Slices ![0, q, 0] S256x1x128 := by
  have := P.hq
  refine ⟨rfl, fun a => ?_⟩
  fin_cases a <;> simp <;> omega

/-- The last row of one word of codes is a slice of all the words. -/
theorem slLast (P : Pair o q sr) : S257x4x128.Slices ![256, q, 0] S1x1x128 := by
  have := P.hq
  refine ⟨rfl, fun a => ?_⟩
  fin_cases a <;> simp <;> omega

/-- An array of one element is not empty. -/
theorem S1_pos : 0 < S1.numel := by decide

/-- The first 256 rows of a pair of heads of a block. -/
def ldMain (P : Pair o q sr) (x : Vec F S1x257x24x128 .bf16) : Vec F S1x256x2x128 .bf16 :=
  View.ld x (Rect.unit ![0, 0, o, 0] S1x256x2x128.size (inbMain P))
/-- The last row of a pair of heads of a block. -/
def ldLast (P : Pair o q sr) (x : Vec F S1x257x24x128 .bf16) : Vec F S1x1x2x128 .bf16 :=
  View.ld x (Rect.unit ![0, 256, o, 0] S1x1x2x128.size (inbLast P))
/-- The first 256 rows of a pair of heads of the scaled values. -/
def ldMainS (P : Pair o q sr) (x : Vec F S257x24x128 .bf16) : Vec F S256x2x128 .bf16 :=
  View.ld x (Rect.unit ![0, o, 0] S256x2x128.size (inbMainS P))
/-- The last row of a pair of heads of the scaled values. -/
def ldLastS (P : Pair o q sr) (x : Vec F S257x24x128 .bf16) : Vec F S1x2x128 .bf16 :=
  View.ld x (Rect.unit ![256, o, 0] S1x2x128.size (inbLastS P))
/-- A lane block of the codes, whole. -/
def ldCodes (x : Vec F S1x257x16x128 .i8) : Vec F S1x257x16x128 .i8 :=
  View.ld x (Rect.unit ![0, 0, 0, 0] S1x257x16x128.size inb_S1x257x16x128_S1x257x16x128_0_0_0_0)
/-- The scale of head `j`. -/
def ldScale {j : ℕ} (hj : j < 16) (x : Vec F S16 .f32) : Elt F .f32 :=
  View.ld x (Rect.unit ![j] S1.size (inbScale hj)) (Shape.Idx.first S1_pos)

/-- One head's codes. -/
def headC (P : Pair o q sr) (I : Ins F) (sl : BitVec 32) : FVec F S264x384 .f32 :=
  codes sr sl (words ![0, q, 0] ![256, q, 0] (slMain P) (slLast P) (ldCodes I.c0))
    (words ![0, q, 0] ![256, q, 0] (slMain P) (slLast P) (ldCodes I.c1))
    (words ![0, q, 0] ![256, q, 0] (slMain P) (slLast P) (ldCodes I.c2))
/-- One head's output gradient. -/
def headG (P : Pair o q sr) (I : Ins F) (p : Fin 2) : FVec F S264x128 .bf16 :=
  roundTrip (masked (half p (ldMain P I.g) (ldLast P I.g)))
/-- One head's scaled values. -/
def headV (P : Pair o q sr) (I : Ins F) (p : Fin 2) : FVec F S264x128 .bf16 :=
  roundTrip (masked (halfS p (ldMainS P I.v) (ldLastS P I.v)))
/-- One head's queries. -/
def headQ (P : Pair o q sr) (I : Ins F) (p : Fin 2) : FVec F S264x128 .bf16 :=
  roundTrip (half p (ldMain P I.q) (ldLast P I.q))
/-- One head's keys. -/
def headK (P : Pair o q sr) (I : Ins F) (p : Fin 2) : FVec F S264x128 .bf16 :=
  roundTrip (half p (ldMain P I.k) (ldLast P I.k))
/-- One head's score gradient. -/
def headS (P : Pair o q sr) (I : Ins F) (p : Fin 2) (sl : BitVec 32) {j : ℕ} (hj : j < 16) : FVec F S264x384 .bf16 :=
  ds (headG P I p) (headV P I p) (headC P I sl) (ldScale hj I.sc)
/-- One head's query gradient. -/
def headDq (P : Pair o q sr) (I : Ins F) (p : Fin 2) (sl : BitVec 32) {j : ℕ} (hj : j < 16) : FVec F S264x128 .bf16 :=
  dq (headS P I p sl hj) (headK P I p)
/-- One head's key gradient. -/
def headDk (P : Pair o q sr) (I : Ins F) (p : Fin 2) (sl : BitVec 32) {j : ℕ} (hj : j < 16) : FVec F S264x128 .bf16 :=
  dk (headS P I p sl hj) (headQ P I p)
/-- One head's value gradient. -/
def headDv (P : Pair o q sr) (I : Ins F) (p : Fin 2) (sl : BitVec 32) {j : ℕ} (hj : j < 16) : FVec F S264x128 .bf16 :=
  dv (headC P I sl) (headG P I p) (ldScale hj I.sc)

/-- The first head of a pair is one of the 16. -/
theorem Pair.lo (P : Pair o q sr) : o < 16 := by have := P.ho; omega
/-- The second head of a pair is one of the 16. -/
theorem Pair.hi (P : Pair o q sr) : o + 1 < 16 := by have := P.ho; omega

/-- The two pieces stored of the pair's query gradients. -/
def dqMain (P : Pair o q sr) (I : Ins F) : Vec F S1x256x2x128 .bf16 :=
  outMain (headDq P I 0 24#32 P.lo) (headDq P I 1 16#32 P.hi)
/-- The last row of the pair's query gradients. -/
def dqLast (P : Pair o q sr) (I : Ins F) : Vec F S1x1x2x128 .bf16 :=
  outLast (headDq P I 0 24#32 P.lo) (headDq P I 1 16#32 P.hi)
/-- The first 256 rows of the pair's key gradients. -/
def dkMain (P : Pair o q sr) (I : Ins F) : Vec F S1x256x2x128 .bf16 :=
  outMain (headDk P I 0 24#32 P.lo) (headDk P I 1 16#32 P.hi)
/-- The last row of the pair's key gradients. -/
def dkLast (P : Pair o q sr) (I : Ins F) : Vec F S1x1x2x128 .bf16 :=
  outLast (headDk P I 0 24#32 P.lo) (headDk P I 1 16#32 P.hi)
/-- The first 256 rows of the pair's value gradients. -/
def dvMain (P : Pair o q sr) (I : Ins F) : Vec F S1x256x2x128 .bf16 :=
  outMain (headDv P I 0 24#32 P.lo) (headDv P I 1 16#32 P.hi)
/-- The last row of the pair's value gradients. -/
def dvLast (P : Pair o q sr) (I : Ins F) : Vec F S1x1x2x128 .bf16 :=
  outLast (headDv P I 0 24#32 P.lo) (headDv P I 1 16#32 P.hi)

end Cert.Proof.Head
-- ==== Proof.HeadVals.lean ====
module

public import proofs.«01_k».proof.Proof.BlockVals
public import proofs.«01_k».proof.Proof.Head
public import Idealize.ShloMosaic.Lib.BitcastFour

@[expose] public section

noncomputable section

/-! What the body stores of a pair of heads is the two heads' gradients. -/

namespace Cert.Proof.HeadVals

open Cert.KernelIdeal Cert.KernelIdeal.Gen Cert.Proof.Block Cert.Proof.Vals Cert.Proof.BlockVals Cert.Proof.Head
open Idealize.ShloMosaic Idealize.ShloMosaic.TcCoe

/-- An 8-bit signed integer as an extended real. -/
def num (b : BitVec 8) : EReal := ((b.toInt : ℝ) : EReal)

/-- Head `h`'s output gradient, scaled values and codes in the blocks of a grid point. -/
def gAt (I : Ins Ideal) (h : Fin 16) (r : Fin 257) (d : Fin 88) : EReal := I.g (ix4 0 r ⟨h.val, by omega⟩ ⟨d.val, by omega⟩)
def vAt (I : Ins Ideal) (h : Fin 16) (r : Fin 257) (d : Fin 88) : EReal := I.v (ix3 r ⟨h.val, by omega⟩ ⟨d.val, by omega⟩)
def cAt (I : Ins Ideal) (h : Fin 16) (r : Fin 257) (c : Fin 257) : EReal :=
  if h0 : c.val < 128 then num (I.c0 (ix4 0 r h ⟨c.val, h0⟩))
  else if h1 : c.val < 256 then num (I.c1 (ix4 0 r h ⟨c.val - 128, by omega⟩))
  else num (I.c2 (ix4 0 r h ⟨c.val - 256, by omega⟩))

variable {o q : ℕ} {sr : BitVec 32}

/-- The head of a pair. -/
def Pair.head (P : Pair o q sr) (p : Fin 2) : Fin 16 := ⟨o + p.val, by have := P.ho; omega⟩

/-- The load of the first 256 rows of a pair of heads reads each element from its row and head. -/
theorem ldMain_apply (P : Pair o q sr) (x : Vec Ideal S1x257x24x128 .bf16) (r : Fin 256) (p : Fin 2) (d : Fin 128) :
    ldMain P x (ix4 0 r p d) = x (ix4 0 ⟨r.val, by omega⟩ ⟨(Pair.head P p).val, by omega⟩ d) := by
  refine congrArg x ?_
  funext a
  match a with
  | ⟨0, _⟩ => rfl
  | ⟨1, _⟩ => exact Fin.ext (by show 0 + 1 * r.val = r.val; omega)
  | ⟨2, _⟩ => exact Fin.ext (by show o + 1 * p.val = o + p.val; omega)
  | ⟨3, _⟩ => exact Fin.ext (by show 0 + 1 * d.val = d.val; omega)

/-- The load of the last row of a pair of heads reads each element from row 256 of its head. -/
theorem ldLast_apply (P : Pair o q sr) (x : Vec Ideal S1x257x24x128 .bf16) (p : Fin 2) (d : Fin 128) :
    ldLast P x (ix4 0 0 p d) = x (ix4 0 256 ⟨(Pair.head P p).val, by omega⟩ d) := by
  refine congrArg x ?_
  funext a
  match a with
  | ⟨0, _⟩ => rfl
  | ⟨1, _⟩ => rfl
  | ⟨2, _⟩ => exact Fin.ext (by show o + 1 * p.val = o + p.val; omega)
  | ⟨3, _⟩ => exact Fin.ext (by show 0 + 1 * d.val = d.val; omega)

/-- The load from the scratch array of the first 256 rows of a pair of heads reads each element from its row and head. -/
theorem ldMainS_apply (P : Pair o q sr) (x : Vec Ideal S257x24x128 .bf16) (r : Fin 256) (p : Fin 2) (d : Fin 128) :
    ldMainS P x (ix3 r p d) = x (ix3 ⟨r.val, by omega⟩ ⟨(Pair.head P p).val, by omega⟩ d) := by
  refine congrArg x ?_
  funext a
  match a with
  | ⟨0, _⟩ => exact Fin.ext (by show 0 + 1 * r.val = r.val; omega)
  | ⟨1, _⟩ => exact Fin.ext (by show o + 1 * p.val = o + p.val; omega)
  | ⟨2, _⟩ => exact Fin.ext (by show 0 + 1 * d.val = d.val; omega)

/-- The load from the scratch array of the last row of a pair of heads reads each element from row 256 of its head. -/
theorem ldLastS_apply (P : Pair o q sr) (x : Vec Ideal S257x24x128 .bf16) (p : Fin 2) (d : Fin 128) :
    ldLastS P x (ix3 0 p d) = x (ix3 256 ⟨(Pair.head P p).val, by omega⟩ d) := by
  refine congrArg x ?_
  funext a
  match a with
  | ⟨0, _⟩ => rfl
  | ⟨1, _⟩ => exact Fin.ext (by show o + 1 * p.val = o + p.val; omega)
  | ⟨2, _⟩ => exact Fin.ext (by show 0 + 1 * d.val = d.val; omega)

/-- The load of a block of codes is the block. -/
theorem ldCodes_eq (x : Vec Ideal S1x257x16x128 .i8) : ldCodes x = x := by
  funext i
  refine congrArg x ?_
  funext a
  match a with
  | ⟨0, _⟩ => exact Fin.ext (by show 0 + 1 * (i 0).val = (i 0).val; omega)
  | ⟨1, _⟩ => exact Fin.ext (by show 0 + 1 * (i 1).val = (i 1).val; omega)
  | ⟨2, _⟩ => exact Fin.ext (by show 0 + 1 * (i 2).val = (i 2).val; omega)
  | ⟨3, _⟩ => exact Fin.ext (by show 0 + 1 * (i 3).val = (i 3).val; omega)

/-- The load of the scale of a head reads that scale. -/
theorem ldScale_eq (x : Vec Ideal S16 .f32) (j : ℕ) (hj : j < 16) : ldScale hj x = x (ix1 ⟨j, hj⟩) := by
  refine congrArg x ?_
  funext a
  match a with
  | ⟨0, _⟩ => exact Fin.ext (by show j + 1 * 0 = j; omega)

/-- A loaded head: its 257 rows, then zeros. -/
theorem half_rows (P : Pair o q sr) (x : Vec Ideal S1x257x24x128 .bf16) (p : Fin 2) :
    CutRows (half p (ldMain P x) (ldLast P x)) (fun r d => x (ix4 0 r ⟨(Pair.head P p).val, by omega⟩ d)) := by
  intro r d
  rw [half_apply]
  by_cases h : r.val < 256
  · have h' : r.val < 257 := by omega
    simp only [h, h', dif_pos, ldMain_apply]
  · by_cases hr : r.val = 256
    · have h' : r.val < 257 := by omega
      have e : (256 : Fin 257) = ⟨r.val, h'⟩ := Fin.ext hr.symm
      simp only [h, h', hr, dif_neg, if_pos, not_false_eq_true, ldLast_apply, e]
      simp
    · have h' : ¬r.val < 257 := by omega
      simp [h, h', hr]

/-- A head split out of the words of the scratch array holds the 257 rows of that head, and zero after them. -/
theorem halfS_rows (P : Pair o q sr) (x : Vec Ideal S257x24x128 .bf16) (p : Fin 2) :
    CutRows (halfS p (ldMainS P x) (ldLastS P x)) (fun r d => x (ix3 r ⟨(Pair.head P p).val, by omega⟩ d)) := by
  intro r d
  rw [halfS_apply]
  by_cases h : r.val < 256
  · have h' : r.val < 257 := by omega
    simp only [h, h', dif_pos, ldMainS_apply]
  · by_cases hr : r.val = 256
    · have h' : r.val < 257 := by omega
      have e : (256 : Fin 257) = ⟨r.val, h'⟩ := Fin.ext hr.symm
      simp only [h, h', hr, dif_neg, if_pos, not_false_eq_true, ldLastS_apply, e]
      simp
    · have h' : ¬r.val < 257 := by omega
      simp [h, h', hr]

/-- Cut at lane 88. -/
theorem masked_cut {x : FVec Ideal S264x128 .bf16} {K : Fin 257 → Fin 128 → EReal} (h : CutRows x K) :
    Cut (roundTrip (masked x)) (fun r d => K r ⟨d.val, by omega⟩) := by
  intro r d
  rw [roundTrip_eq, masked_apply, h]
  by_cases hd : d.val < 88 <;> by_cases hr : r.val < 257 <;> simp [hd, hr]

/-- The output gradient the body uses for a head is that of the head, and zero outside its rows and lanes. -/
theorem headG_cut (P : Pair o q sr) (I : Ins Ideal) (p : Fin 2) : Cut (headG P I p) (gAt I (Pair.head P p)) :=
  masked_cut (half_rows P I.g p)
/-- The scaled values the body uses for a head are those of the head, and zero outside its rows and lanes. -/
theorem headV_cut (P : Pair o q sr) (I : Ins Ideal) (p : Fin 2) : Cut (headV P I p) (vAt I (Pair.head P p)) :=
  masked_cut (halfS_rows P I.v p)
/-- The k the body uses for a head is that of the head, and zero after its 257 rows. -/
theorem headK_rows (P : Pair o q sr) (I : Ins Ideal) (p : Fin 2) :
    CutRows (headK P I p) (fun r d => I.k (ix4 0 r ⟨(Pair.head P p).val, by omega⟩ d)) := by
  unfold headK; rw [roundTrip_eq]; exact half_rows P I.k p
/-- The q the body uses for a head is that of the head, and zero after its 257 rows. -/
theorem headQ_rows (P : Pair o q sr) (I : Ins Ideal) (p : Fin 2) :
    CutRows (headQ P I p) (fun r d => I.q (ix4 0 r ⟨(Pair.head P p).val, by omega⟩ d)) := by
  unfold headQ; rw [roundTrip_eq]; exact half_rows P I.q p

/-- A head's byte of the word its quarter holds is that head's code. -/
theorem word_byte (P : Pair o q sr) (p : Fin 2) (x : Vec Ideal S1x257x16x128 .i8) (r : Fin 257) (l : Fin 128) :
    byte sr (BitVec.ofNat 32 (24 - 8 * p.val))
        (bitcast S257x4x128 32 (fun i => x (ix4 0 (i 0) (i 1) (i 2))) bitcasts_S257x16x128_w8_S257x4x128_w32 (ix3 r ⟨q, P.hq⟩ l))
      = (x (ix4 0 r (Pair.head P p) l)).signExtend 32 := by
  obtain ⟨e, he, rfl, ho⟩ := P.hsr
  refine byte_eq ⟨e, he⟩ p _ _ fun i hi => ?_
  have hp := p.isLt
  rw [bitcast_8_32_getLsbD _ _ _ _ (by show 8 * (2 * e + p.val) + i < 32; omega)]
  have e1 : (8 * (2 * e + p.val) + i) % 8 = i := by omega
  have e2 : (8 * (2 * e + p.val) + i) / 8 = 2 * e + p.val := by omega
  refine congrArg₂ BitVec.getLsbD (congrArg x ?_) e1
  funext c
  match c with
  | ⟨0, _⟩ => rfl
  | ⟨1, _⟩ => exact Fin.ext (Shape.Bitcasts.srcIdx_other _ _ _ _ ⟨0, by decide⟩ (by decide))
  | ⟨2, _⟩ => exact Fin.ext ((Shape.Bitcasts.srcIdx_row _ _ _ _ ⟨1, by decide⟩ (by decide)).trans (by
      show 4 * q + (8 * (2 * e + p.val) + i) / 8 = o + p.val
      omega))
  | ⟨3, _⟩ => exact Fin.ext (Shape.Bitcasts.srcIdx_other _ _ _ _ ⟨2, by decide⟩ (by decide))

/-- One lane block of a head's codes. -/
theorem code_words (P : Pair o q sr) (p : Fin 2) (x : Vec Ideal S1x257x16x128 .i8) (r : Fin 264) (l : Fin 128) :
    ((byte sr (BitVec.ofNat 32 (24 - 8 * p.val)) (words (F := Ideal) ![0, q, 0] ![256, q, 0] (slMain P) (slLast P) x (ix2 r l))).toInt : ℝ)
      = if h : r.val < 257 then ((x (ix4 0 ⟨r.val, h⟩ (Pair.head P p) l)).toInt : ℝ) else 0 := by
  rw [words_apply q P.hq]
  by_cases h : r.val < 257
  · rw [dif_pos h, dif_pos h, word_byte, BitVec.toInt_signExtend_of_le (by decide)]
  · rw [dif_neg h, dif_neg h]
    obtain ⟨e, he, rfl, ho⟩ := P.hsr
    rw [byte_zero ⟨e, he⟩ p]
    simp

/-- The codes the body uses for a head are those of the head, and zero outside its rows and columns. -/
theorem headC_cut (P : Pair o q sr) (I : Ins Ideal) (p : Fin 2) :
    CutCols (headC P I (BitVec.ofNat 32 (24 - 8 * p.val))) (cAt I (Pair.head P p)) := by
  intro r c
  unfold headC
  rw [codes_apply, ldCodes_eq, ldCodes_eq, ldCodes_eq]
  by_cases h0 : c.val < 128
  · have hc : c.val < 257 := by omega
    simp only [h0, dif_pos]
    rw [code_apply, code_words P p]
    by_cases h : r.val < 257
    · simp [h, hc, cAt, h0, num]
    · simp [h]
  · by_cases h1 : c.val < 256
    · have hc : c.val < 257 := by omega
      simp only [h0, h1, dif_pos, dif_neg, not_false_eq_true]
      rw [code_apply, code_words P p]
      by_cases h : r.val < 257
      · simp [h, hc, cAt, h0, h1, num]
      · simp [h]
    · simp only [h0, h1, dif_neg, not_false_eq_true]
      rw [code_apply, firstLane_apply]
      by_cases hc : c.val < 257
      · rw [if_pos (show c.val - 256 = 0 by omega), code_words P p]
        by_cases h : r.val < 257
        · simp [h, hc, cAt, h0, h1, num]
        · simp [h]
      · rw [if_neg (show ¬c.val - 256 = 0 by omega), dif_neg (by omega)]
        obtain ⟨e, he, rfl, ho⟩ := P.hsr
        rw [byte_zero ⟨e, he⟩ p]
        simp

/-- The score gradient the body computes for a head is the one of the specification, and zero outside its rows and columns. -/
theorem headS_cut (P : Pair o q sr) (I : Ins Ideal) (p : Fin 2) (hj : o + p.val < 16) :
    CutCols (headS P I p (BitVec.ofNat 32 (24 - 8 * p.val)) hj)
      (Spec.ds (gAt I (Pair.head P p)) (vAt I (Pair.head P p)) (cAt I (Pair.head P p)) (I.sc (ix1 (Pair.head P p)))) := by
  unfold headS
  rw [ldScale_eq]
  exact ds_eq (headG_cut P I p) (headV_cut P I p) (headC_cut P I p) _

/-- The query gradients of a grid point; zero past the sixteen heads. -/
def outQ (I : Ins Ideal) (y : S1x257x24x128.Idx) : EReal :=
  if h : (y 2).val < 16 then
    Spec.dq (gAt I ⟨(y 2).val, h⟩) (vAt I ⟨(y 2).val, h⟩) (cAt I ⟨(y 2).val, h⟩) (I.sc (ix1 ⟨(y 2).val, h⟩)) (fun c => I.k (ix4 0 c (y 2) (y 3))) (y 1)
  else 0

/-- The key gradients of a grid point; zero past the sixteen heads. -/
def outK (I : Ins Ideal) (y : S1x257x24x128.Idx) : EReal :=
  if h : (y 2).val < 16 then
    Spec.dk (gAt I ⟨(y 2).val, h⟩) (vAt I ⟨(y 2).val, h⟩) (cAt I ⟨(y 2).val, h⟩) (I.sc (ix1 ⟨(y 2).val, h⟩)) (fun r => I.q (ix4 0 r (y 2) (y 3))) (y 1)
  else 0

/-- The value gradients of a grid point; zero past the sixteen heads. -/
def outV (I : Ins Ideal) (y : S1x257x24x128.Idx) : EReal :=
  if h : (y 2).val < 16 then
    Spec.dv (cAt I ⟨(y 2).val, h⟩) (I.sc (ix1 ⟨(y 2).val, h⟩))
      (fun r => if h' : (y 3).val < 88 then gAt I ⟨(y 2).val, h⟩ r ⟨(y 3).val, h'⟩ else 0) (y 1)
  else 0

/-- On the real rows, the dq the body computes for a head is the dq of the block. -/
theorem headDq_apply (P : Pair o q sr) (I : Ins Ideal) (p : Fin 2) (hj : o + p.val < 16) (r : Fin 264) (hr : r.val < 257) (d : Fin 128) :
    headDq P I p (BitVec.ofNat 32 (24 - 8 * p.val)) hj (ix2 r d) = outQ I (ix4 0 ⟨r.val, hr⟩ ⟨(Pair.head P p).val, by omega⟩ d) := by
  unfold headDq
  rw [dq_eq (headS_cut P I p hj) (headK_rows P I p) r hr]
  unfold outQ
  rw [dif_pos (show ((ix4 0 ⟨r.val, hr⟩ ⟨(Pair.head P p).val, by omega⟩ d : S1x257x24x128.Idx) 2).val < 16 from hj)]
  rfl

/-- On the real rows, the dk the body computes for a head is the dk of the block. -/
theorem headDk_apply (P : Pair o q sr) (I : Ins Ideal) (p : Fin 2) (hj : o + p.val < 16) (r : Fin 264) (hr : r.val < 257) (d : Fin 128) :
    headDk P I p (BitVec.ofNat 32 (24 - 8 * p.val)) hj (ix2 r d) = outK I (ix4 0 ⟨r.val, hr⟩ ⟨(Pair.head P p).val, by omega⟩ d) := by
  unfold headDk
  rw [dk_eq (headS_cut P I p hj) (headQ_rows P I p) r hr]
  unfold outK
  rw [dif_pos (show ((ix4 0 ⟨r.val, hr⟩ ⟨(Pair.head P p).val, by omega⟩ d : S1x257x24x128.Idx) 2).val < 16 from hj)]
  rfl

/-- On the real rows, the dv the body computes for a head is the dv of the block. -/
theorem headDv_apply (P : Pair o q sr) (I : Ins Ideal) (p : Fin 2) (hj : o + p.val < 16) (r : Fin 264) (hr : r.val < 257) (d : Fin 128) :
    headDv P I p (BitVec.ofNat 32 (24 - 8 * p.val)) hj (ix2 r d) = outV I (ix4 0 ⟨r.val, hr⟩ ⟨(Pair.head P p).val, by omega⟩ d) := by
  unfold headDv
  rw [ldScale_eq, dv_eq (headC_cut P I p) (headG_cut P I p) _ r hr]
  unfold outV
  rw [dif_pos (show ((ix4 0 ⟨r.val, hr⟩ ⟨(Pair.head P p).val, by omega⟩ d : S1x257x24x128.Idx) 2).val < 16 from hj)]
  rfl

/-- A pair of heads stored at the first 256 rows. -/
theorem outMain_eq (P : Pair o q sr) (G : S1x257x24x128.Idx → EReal) (x y : FVec Ideal S264x128 .bf16)
    (hx : ∀ (r : Fin 264) (hr : r.val < 257) (d : Fin 128), x (ix2 r d) = G (ix4 0 ⟨r.val, hr⟩ ⟨(Pair.head P 0).val, by omega⟩ d))
    (hy : ∀ (r : Fin 264) (hr : r.val < 257) (d : Fin 128), y (ix2 r d) = G (ix4 0 ⟨r.val, hr⟩ ⟨(Pair.head P 1).val, by omega⟩ d))
    (j : S1x256x2x128.Idx) : outMain x y j = G ((Rect.unit (s := S1x257x24x128) ![0, 0, o, 0] S1x256x2x128.size (inbMain P)).emb j) := by
  have hj : j = ix4 0 (j 1) (j 2) (j 3) := by
    funext a
    match a with
    | ⟨0, _⟩ => exact Fin.ext (by have : (j 0).val < 1 := (j 0).isLt; show (j 0).val = 0; omega)
    | ⟨1, _⟩ => rfl
    | ⟨2, _⟩ => rfl
    | ⟨3, _⟩ => rfl
  have hr : (j 1).val < 256 := (j 1).isLt
  have key : ∀ p : Fin 2, p.val = (j 2).val → (ix4 0 ⟨(j 1).val, by omega⟩ ⟨(Pair.head P p).val, by omega⟩ (j 3) : S1x257x24x128.Idx)
      = (Rect.unit (s := S1x257x24x128) ![0, 0, o, 0] S1x256x2x128.size (inbMain P)).emb j := by
    intro p hp
    funext a
    refine Fin.ext (Eq.trans ?_ (Rect.emb_apply _ _ _).symm)
    match a with
    | ⟨0, _⟩ => have : (j 0).val < 1 := (j 0).isLt; show 0 = 0 + 1 * (j 0).val; omega
    | ⟨1, _⟩ => show (j 1).val = 0 + 1 * (j 1).val; omega
    | ⟨2, _⟩ => show o + p.val = o + 1 * (j 2).val; omega
    | ⟨3, _⟩ => show (j 3).val = 0 + 1 * (j 3).val; omega
  refine (congrArg (outMain x y) hj).trans ((outMain_apply x y (j 1) (j 2) (j 3)).trans ?_)
  by_cases h : j 2 = (0 : Fin 2)
  · refine (if_pos h).trans ((hx _ (by show (j 1).val < 257; omega) _).trans (congrArg G (key 0 ?_)))
    exact (congrArg Fin.val h).symm
  · refine (if_neg h).trans ((hy _ (by show (j 1).val < 257; omega) _).trans (congrArg G (key 1 ?_)))
    have h2 : (j 2).val < 2 := (j 2).isLt
    have : (j 2).val ≠ 0 := fun hh => h (Fin.ext hh)
    show 1 = (j 2).val
    omega

/-- A pair of heads stored at the last row. -/
theorem outLast_eq (P : Pair o q sr) (G : S1x257x24x128.Idx → EReal) (x y : FVec Ideal S264x128 .bf16)
    (hx : ∀ (r : Fin 264) (hr : r.val < 257) (d : Fin 128), x (ix2 r d) = G (ix4 0 ⟨r.val, hr⟩ ⟨(Pair.head P 0).val, by omega⟩ d))
    (hy : ∀ (r : Fin 264) (hr : r.val < 257) (d : Fin 128), y (ix2 r d) = G (ix4 0 ⟨r.val, hr⟩ ⟨(Pair.head P 1).val, by omega⟩ d))
    (j : S1x1x2x128.Idx) : outLast x y j = G ((Rect.unit (s := S1x257x24x128) ![0, 256, o, 0] S1x1x2x128.size (inbLast P)).emb j) := by
  have hj : j = ix4 0 0 (j 2) (j 3) := by
    funext a
    match a with
    | ⟨0, _⟩ => exact Fin.ext (by have : (j 0).val < 1 := (j 0).isLt; show (j 0).val = 0; omega)
    | ⟨1, _⟩ => exact Fin.ext (by have : (j 1).val < 1 := (j 1).isLt; show (j 1).val = 0; omega)
    | ⟨2, _⟩ => rfl
    | ⟨3, _⟩ => rfl
  have key : ∀ p : Fin 2, p.val = (j 2).val → (ix4 0 ⟨256, by omega⟩ ⟨(Pair.head P p).val, by omega⟩ (j 3) : S1x257x24x128.Idx)
      = (Rect.unit (s := S1x257x24x128) ![0, 256, o, 0] S1x1x2x128.size (inbLast P)).emb j := by
    intro p hp
    funext a
    refine Fin.ext (Eq.trans ?_ (Rect.emb_apply _ _ _).symm)
    match a with
    | ⟨0, _⟩ => have : (j 0).val < 1 := (j 0).isLt; show 0 = 0 + 1 * (j 0).val; omega
    | ⟨1, _⟩ => have : (j 1).val < 1 := (j 1).isLt; show 256 = 256 + 1 * (j 1).val; omega
    | ⟨2, _⟩ => show o + p.val = o + 1 * (j 2).val; omega
    | ⟨3, _⟩ => show (j 3).val = 0 + 1 * (j 3).val; omega
  refine (congrArg (outLast x y) hj).trans ((outLast_apply x y (j 2) (j 3)).trans ?_)
  by_cases h : j 2 = (0 : Fin 2)
  · refine (if_pos h).trans ((hx _ (by decide) _).trans (congrArg G (key 0 ?_)))
    exact (congrArg Fin.val h).symm
  · refine (if_neg h).trans ((hy _ (by decide) _).trans (congrArg G (key 1 ?_)))
    have h2 : (j 2).val < 2 := (j 2).isLt
    have : (j 2).val ≠ 0 := fun hh => h (Fin.ext hh)
    show 1 = (j 2).val
    omega

/-- The first 256 rows stored of dq for a pair of heads are those of the dq of the block. -/
theorem dqMain_eq (P : Pair o q sr) (I : Ins Ideal) (j : S1x256x2x128.Idx) :
    dqMain P I j = outQ I ((Rect.unit (s := S1x257x24x128) ![0, 0, o, 0] S1x256x2x128.size (inbMain P)).emb j) :=
  outMain_eq P _ _ _ (headDq_apply P I 0 P.lo) (headDq_apply P I 1 P.hi) j
/-- The last row stored of dq for a pair of heads is that of the dq of the block. -/
theorem dqLast_eq (P : Pair o q sr) (I : Ins Ideal) (j : S1x1x2x128.Idx) :
    dqLast P I j = outQ I ((Rect.unit (s := S1x257x24x128) ![0, 256, o, 0] S1x1x2x128.size (inbLast P)).emb j) :=
  outLast_eq P _ _ _ (headDq_apply P I 0 P.lo) (headDq_apply P I 1 P.hi) j
/-- The first 256 rows stored of dk for a pair of heads are those of the dk of the block. -/
theorem dkMain_eq (P : Pair o q sr) (I : Ins Ideal) (j : S1x256x2x128.Idx) :
    dkMain P I j = outK I ((Rect.unit (s := S1x257x24x128) ![0, 0, o, 0] S1x256x2x128.size (inbMain P)).emb j) :=
  outMain_eq P _ _ _ (headDk_apply P I 0 P.lo) (headDk_apply P I 1 P.hi) j
/-- The last row stored of dk for a pair of heads is that of the dk of the block. -/
theorem dkLast_eq (P : Pair o q sr) (I : Ins Ideal) (j : S1x1x2x128.Idx) :
    dkLast P I j = outK I ((Rect.unit (s := S1x257x24x128) ![0, 256, o, 0] S1x1x2x128.size (inbLast P)).emb j) :=
  outLast_eq P _ _ _ (headDk_apply P I 0 P.lo) (headDk_apply P I 1 P.hi) j
/-- The first 256 rows stored of dv for a pair of heads are those of the dv of the block. -/
theorem dvMain_eq (P : Pair o q sr) (I : Ins Ideal) (j : S1x256x2x128.Idx) :
    dvMain P I j = outV I ((Rect.unit (s := S1x257x24x128) ![0, 0, o, 0] S1x256x2x128.size (inbMain P)).emb j) :=
  outMain_eq P _ _ _ (headDv_apply P I 0 P.lo) (headDv_apply P I 1 P.hi) j
/-- The last row stored of dv for a pair of heads is that of the dv of the block. -/
theorem dvLast_eq (P : Pair o q sr) (I : Ins Ideal) (j : S1x1x2x128.Idx) :
    dvLast P I j = outV I ((Rect.unit (s := S1x257x24x128) ![0, 256, o, 0] S1x1x2x128.size (inbLast P)).emb j) :=
  outLast_eq P _ _ _ (headDv_apply P I 0 P.lo) (headDv_apply P I 1 P.hi) j

end Cert.Proof.HeadVals
-- ==== Proof.Pieces.lean ====
module

public import proofs.«01_k».proof.Proof.RunI
public import proofs.«01_k».proof.Proof.Head

@[expose] public section

set_option maxRecDepth 16384

noncomputable section

/-! The three arrays the body leaves are, pair of heads by pair of heads, the block functions of the blocks it reads. -/

namespace Cert.Proof.Pieces

open Cert.KernelIdeal Cert.KernelIdeal.Gen Cert.Proof.RunI Cert.Proof.Head
open Idealize.ShloMosaic Idealize.ShloMosaic.TcCoe

variable {F : FTy → Type} [FloatOps F]

/-- Heads 0 and 1 are a pair: the word that holds their codes and the shift that brings them down. -/
theorem pair0 : Pair 0 0 0#32 := ⟨by decide, by decide, ⟨0, by decide, rfl, rfl⟩⟩
/-- Heads 2 and 3 are a pair: the word that holds their codes and the shift that brings them down. -/
theorem pair2 : Pair 2 0 16#32 := ⟨by decide, by decide, ⟨1, by decide, rfl, rfl⟩⟩
/-- Heads 4 and 5 are a pair: the word that holds their codes and the shift that brings them down. -/
theorem pair4 : Pair 4 1 0#32 := ⟨by decide, by decide, ⟨0, by decide, rfl, rfl⟩⟩
/-- Heads 6 and 7 are a pair: the word that holds their codes and the shift that brings them down. -/
theorem pair6 : Pair 6 1 16#32 := ⟨by decide, by decide, ⟨1, by decide, rfl, rfl⟩⟩
/-- Heads 8 and 9 are a pair: the word that holds their codes and the shift that brings them down. -/
theorem pair8 : Pair 8 2 0#32 := ⟨by decide, by decide, ⟨0, by decide, rfl, rfl⟩⟩
/-- Heads 10 and 11 are a pair: the word that holds their codes and the shift that brings them down. -/
theorem pair10 : Pair 10 2 16#32 := ⟨by decide, by decide, ⟨1, by decide, rfl, rfl⟩⟩
/-- Heads 12 and 13 are a pair: the word that holds their codes and the shift that brings them down. -/
theorem pair12 : Pair 12 3 0#32 := ⟨by decide, by decide, ⟨0, by decide, rfl, rfl⟩⟩
/-- Heads 14 and 15 are a pair: the word that holds their codes and the shift that brings them down. -/
theorem pair14 : Pair 14 3 16#32 := ⟨by decide, by decide, ⟨1, by decide, rfl, rfl⟩⟩

variable (c : Dev nD) (i : grid0.Coords)
    (M1 : Memref sig .tc .smem S16 .f32) (h1 : M1.IsWhole)
    (M2 : Memref sig .tc .vmem S1x257x24x128 .bf16) (h2 : M2.IsWhole)
    (M3 : Memref sig .tc .vmem S1x257x24x128 .bf16) (h3 : M3.IsWhole)
    (M4 : Memref sig .tc .vmem S1x257x16x128 .i8) (h4 : M4.IsWhole)
    (M5 : Memref sig .tc .vmem S1x257x16x128 .i8) (h5 : M5.IsWhole)
    (M6 : Memref sig .tc .vmem S1x257x16x128 .i8) (h6 : M6.IsWhole)
    (M7 : Memref sig .tc .vmem S1x257x16x128 .fp8e4m3) (h7 : M7.IsWhole)
    (M8 : Memref sig .tc .vmem S1x16x128 .f32) (h8 : M8.IsWhole)
    (M9 : Memref sig .tc .vmem S1x257x24x128 .bf16) (h9 : M9.IsWhole)
    (M10 : Memref sig .tc .vmem S1x257x24x128 .bf16) (h10 : M10.IsWhole)
    (M11 : Memref sig .tc .vmem S1x257x24x128 .bf16) (h11 : M11.IsWhole)
    (M12 : Memref sig .tc .vmem S1x257x24x128 .bf16) (h12 : M12.IsWhole)
    (M13 : Memref sig .tc .vmem S257x24x128 .bf16) (h13 : M13.IsWhole)
    (x1 : Vec F S16 .f32) (x2 x3 : Vec F S1x257x24x128 .bf16) (x4 x5 x6 : Vec F S1x257x16x128 .i8)
    (x7 : Vec F S1x257x16x128 .fp8e4m3) (x8 : Vec F S1x16x128 .f32) (x9 : Vec F S1x257x24x128 .bf16)
    (d10 d11 d12 : Vec F S1x257x24x128 .bf16) (d13 : Vec F S257x24x128 .bf16)

/-- The scratch array after its loop. -/
def scratch : Vec F S257x24x128 .bf16 :=
  View.read (Elt F) M13.view (M13.view.writes (Elt F) (h13.unread d13)
    (pb_k0_t1 𝒱₀ c none i M1 h1 M2 h2 M3 h3 M4 h4 M5 h5 M6 h6 M7 h7 M8 h8 M9 h9 M10 h10 M11 h11 M12 h12 M13 h13
      (View.readAt (Elt F) M8.view (Rect.unit ![0, 0, 0] S1x16x128.size inb_S1x16x128_S1x16x128_0_0_0).toLoadRect (h8.unread x8))
      (h7.unread x7) (Scf.trips k0_t1_loop.lb k0_t1_loop.ub k0_t1_loop.st)))

/-- The blocks as the body reads them. -/
def ins : Ins F where
  sc := View.read (Elt F) M1.view (h1.unread x1)
  q := View.read (Elt F) M2.view (h2.unread x2)
  k := View.read (Elt F) M3.view (h3.unread x3)
  g := View.read (Elt F) M9.view (h9.unread x9)
  c0 := View.read (Elt F) M4.view (h4.unread x4)
  c1 := View.read (Elt F) M5.view (h5.unread x5)
  c2 := View.read (Elt F) M6.view (h6.unread x6)
  v := scratch c i M1 h1 M2 h2 M3 h3 M4 h4 M5 h5 M6 h6 M7 h7 M8 h8 M9 h9 M10 h10 M11 h11 M12 h12 M13 h13 x7 x8 d13

/-- The rectangles the body stores at, last first. -/
def rects : List (Rect S1x257x24x128) := [
  Rect.unit ![0, 256, 14, 0] S1x1x2x128.size inb_S1x257x24x128_S1x1x2x128_0_256_14_0,
  Rect.unit ![0, 0, 14, 0] S1x256x2x128.size inb_S1x257x24x128_S1x256x2x128_0_0_14_0,
  Rect.unit ![0, 256, 12, 0] S1x1x2x128.size inb_S1x257x24x128_S1x1x2x128_0_256_12_0,
  Rect.unit ![0, 0, 12, 0] S1x256x2x128.size inb_S1x257x24x128_S1x256x2x128_0_0_12_0,
  Rect.unit ![0, 256, 10, 0] S1x1x2x128.size inb_S1x257x24x128_S1x1x2x128_0_256_10_0,
  Rect.unit ![0, 0, 10, 0] S1x256x2x128.size inb_S1x257x24x128_S1x256x2x128_0_0_10_0,
  Rect.unit ![0, 256, 8, 0] S1x1x2x128.size inb_S1x257x24x128_S1x1x2x128_0_256_8_0,
  Rect.unit ![0, 0, 8, 0] S1x256x2x128.size inb_S1x257x24x128_S1x256x2x128_0_0_8_0,
  Rect.unit ![0, 256, 6, 0] S1x1x2x128.size inb_S1x257x24x128_S1x1x2x128_0_256_6_0,
  Rect.unit ![0, 0, 6, 0] S1x256x2x128.size inb_S1x257x24x128_S1x256x2x128_0_0_6_0,
  Rect.unit ![0, 256, 4, 0] S1x1x2x128.size inb_S1x257x24x128_S1x1x2x128_0_256_4_0,
  Rect.unit ![0, 0, 4, 0] S1x256x2x128.size inb_S1x257x24x128_S1x256x2x128_0_0_4_0,
  Rect.unit ![0, 256, 2, 0] S1x1x2x128.size inb_S1x257x24x128_S1x1x2x128_0_256_2_0,
  Rect.unit ![0, 0, 2, 0] S1x256x2x128.size inb_S1x257x24x128_S1x256x2x128_0_0_2_0,
  Rect.unit ![0, 256, 0, 0] S1x1x2x128.size inb_S1x257x24x128_S1x1x2x128_0_256_0_0,
  Rect.unit ![0, 0, 0, 0] S1x256x2x128.size inb_S1x257x24x128_S1x256x2x128_0_0_0_0]

/-- An element of a pair of heads that is not in row 256 lies in the rectangle of the first 256 rows of the pair. -/
theorem mem_main {o : ℕ} (inb : ∀ a, (![0, 0, o, 0] : Fin 4 → ℕ) a + S1x256x2x128.size a ≤ S1x257x24x128.size a)
    (y : S1x257x24x128.Idx) (h : (y 2).val / 2 = o / 2) (ho : o % 2 = 0) (hr : ¬(y 1).val = 256) :
    y ∈ (Rect.unit (s := S1x257x24x128) ![0, 0, o, 0] S1x256x2x128.size inb).set := by
  have h0 : (y 0).val < 1 := (y 0).isLt
  have h1 : (y 1).val < 257 := (y 1).isLt
  have h3 : (y 3).val < 128 := (y 3).isLt
  refine Rect.mem_set_unit.mpr fun a => ?_
  match a with
  | ⟨0, _⟩ => exact ⟨Nat.zero_le _, h0⟩
  | ⟨1, _⟩ => exact ⟨Nat.zero_le _, show (y 1).val < 0 + 256 by omega⟩
  | ⟨2, _⟩ => exact ⟨show o ≤ (y 2).val by omega, show (y 2).val < o + 2 by omega⟩
  | ⟨3, _⟩ => exact ⟨Nat.zero_le _, show (y 3).val < 0 + 128 by omega⟩

/-- An element of a pair of heads in row 256 lies in the rectangle of the last row of the pair. -/
theorem mem_last {o : ℕ} (inb : ∀ a, (![0, 256, o, 0] : Fin 4 → ℕ) a + S1x1x2x128.size a ≤ S1x257x24x128.size a)
    (y : S1x257x24x128.Idx) (h : (y 2).val / 2 = o / 2) (ho : o % 2 = 0) (hr : (y 1).val = 256) :
    y ∈ (Rect.unit (s := S1x257x24x128) ![0, 256, o, 0] S1x1x2x128.size inb).set := by
  have h0 : (y 0).val < 1 := (y 0).isLt
  have h3 : (y 3).val < 128 := (y 3).isLt
  refine Rect.mem_set_unit.mpr fun a => ?_
  match a with
  | ⟨0, _⟩ => exact ⟨Nat.zero_le _, h0⟩
  | ⟨1, _⟩ => exact ⟨show 256 ≤ (y 1).val by omega, show (y 1).val < 256 + 1 by omega⟩
  | ⟨2, _⟩ => exact ⟨show o ≤ (y 2).val by omega, show (y 2).val < o + 2 by omega⟩
  | ⟨3, _⟩ => exact ⟨Nat.zero_le _, show (y 3).val < 0 + 128 by omega⟩

/-- Every row of the sixteen heads is stored. -/
theorem rects_cover (y : S1x257x24x128.Idx) (hy : (y 2).val < 16) : ∃ r ∈ rects, y ∈ r.set := by
  obtain h | h | h | h | h | h | h | h : (y 2).val / 2 = 7 ∨ (y 2).val / 2 = 6 ∨ (y 2).val / 2 = 5 ∨ (y 2).val / 2 = 4
      ∨ (y 2).val / 2 = 3 ∨ (y 2).val / 2 = 2 ∨ (y 2).val / 2 = 1 ∨ (y 2).val / 2 = 0 := by omega
  · by_cases hr : (y 1).val = 256
    · exact ⟨rects[0], List.getElem_mem _, mem_last inb_S1x257x24x128_S1x1x2x128_0_256_14_0 y h rfl hr⟩
    · exact ⟨rects[1], List.getElem_mem _, mem_main inb_S1x257x24x128_S1x256x2x128_0_0_14_0 y h rfl hr⟩
  · by_cases hr : (y 1).val = 256
    · exact ⟨rects[2], List.getElem_mem _, mem_last inb_S1x257x24x128_S1x1x2x128_0_256_12_0 y h rfl hr⟩
    · exact ⟨rects[3], List.getElem_mem _, mem_main inb_S1x257x24x128_S1x256x2x128_0_0_12_0 y h rfl hr⟩
  · by_cases hr : (y 1).val = 256
    · exact ⟨rects[4], List.getElem_mem _, mem_last inb_S1x257x24x128_S1x1x2x128_0_256_10_0 y h rfl hr⟩
    · exact ⟨rects[5], List.getElem_mem _, mem_main inb_S1x257x24x128_S1x256x2x128_0_0_10_0 y h rfl hr⟩
  · by_cases hr : (y 1).val = 256
    · exact ⟨rects[6], List.getElem_mem _, mem_last inb_S1x257x24x128_S1x1x2x128_0_256_8_0 y h rfl hr⟩
    · exact ⟨rects[7], List.getElem_mem _, mem_main inb_S1x257x24x128_S1x256x2x128_0_0_8_0 y h rfl hr⟩
  · by_cases hr : (y 1).val = 256
    · exact ⟨rects[8], List.getElem_mem _, mem_last inb_S1x257x24x128_S1x1x2x128_0_256_6_0 y h rfl hr⟩
    · exact ⟨rects[9], List.getElem_mem _, mem_main inb_S1x257x24x128_S1x256x2x128_0_0_6_0 y h rfl hr⟩
  · by_cases hr : (y 1).val = 256
    · exact ⟨rects[10], List.getElem_mem _, mem_last inb_S1x257x24x128_S1x1x2x128_0_256_4_0 y h rfl hr⟩
    · exact ⟨rects[11], List.getElem_mem _, mem_main inb_S1x257x24x128_S1x256x2x128_0_0_4_0 y h rfl hr⟩
  · by_cases hr : (y 1).val = 256
    · exact ⟨rects[12], List.getElem_mem _, mem_last inb_S1x257x24x128_S1x1x2x128_0_256_2_0 y h rfl hr⟩
    · exact ⟨rects[13], List.getElem_mem _, mem_main inb_S1x257x24x128_S1x256x2x128_0_0_2_0 y h rfl hr⟩
  · by_cases hr : (y 1).val = 256
    · exact ⟨rects[14], List.getElem_mem _, mem_last inb_S1x257x24x128_S1x1x2x128_0_256_0_0 y h rfl hr⟩
    · exact ⟨rects[15], List.getElem_mem _, mem_main inb_S1x257x24x128_S1x256x2x128_0_0_0_0 y h rfl hr⟩

/-- So a list of pieces stored at those rectangles covers them. -/
theorem cover (L : List (View.Piece (Elt F) S1x257x24x128 .bf16)) (hL : L.map (fun p => p.1) = rects)
    (y : S1x257x24x128.Idx) (hy : (y 2).val < 16) : ∃ p ∈ L, y ∈ p.1.set := by
  obtain ⟨r, hr, hyr⟩ := rects_cover y hy
  rw [← hL] at hr
  obtain ⟨p, hp, rfl⟩ := List.mem_map.mp hr
  exact ⟨p, hp, hyr⟩

end Cert.Proof.Pieces
-- ==== Proof.Scratch.lean ====
module

public import proofs.«01_k».proof.Proof.Pieces
public import Idealize.ShloMosaic.Lib.Pointwise

@[expose] public section

set_option maxRecDepth 16384

noncomputable section

/-! What the scratch array holds after its loop: the value codes times their scales. -/

namespace Cert.Proof.Scratch

open Cert.KernelIdeal Cert.KernelIdeal.Gen Cert.Proof.RunI Cert.Proof.Pieces
open Idealize.ShloMosaic Idealize.ShloMosaic.TcCoe

/-- The loop that fills the scratch array runs 257 times. -/
theorem trips_eq : k0_t1_loop.trips = 257 := by decide

/-- Trip `k` stores at row `k`. -/
theorem off2_eq (k : Fin k0_t1_loop.trips) : k0_off2 k = ![k.val, 0, 0] := by
  have h : k.val < 257 := trips_eq ▸ k.isLt
  unfold k0_off2
  simp [Scf.iv, Scalar.indexCast]
  omega

/-- Trip `k` loads row `k`. -/
theorem off1_eq (k : Fin k0_t1_loop.trips) : k0_off1 k = ![0, k.val, 0, 0] := by
  have h : k.val < 257 := trips_eq ▸ k.isLt
  unfold k0_off1
  simp [Scf.iv, Scalar.indexCast]
  omega

/-- What a trip stores, at an index. -/
theorem pay8_apply (v6 : Vec Ideal S1x16x128 .f32) (x : Vec Ideal S1x1x16x128 .fp8e4m3) (j : S1x16x128.Idx) :
    k0_pay8 v6 x j = x (ix4 0 0 (j 1) (j 2)) * v6 (ix3 0 (j 1) (j 2)) := by
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  pointwise [k0_pay8]
  exact congrArg (fun z => x (ix4 0 0 (j 1) (j 2)) * v6 z) hj

/-- A whole buffer read through a rectangle. -/
theorem readAt_unread {sp : Space} {s : Shape} {e : EltTy} (M : Memref sig .tc sp s e) (h : M.IsWhole) (x : Vec Ideal s e)
    (r : Rect s) (j : r.toLoadRect.shape.Idx) :
    View.readAt (Elt Ideal) M.view r.toLoadRect (h.unread x) j = x (r.toLoadRect.idx j) := by
  rw [View.readAt_eq_ld, h.read_unread]

variable (c : Dev nD) (i : grid0.Coords)
    (M1 : Memref sig .tc .smem S16 .f32) (h1 : M1.IsWhole)
    (M2 : Memref sig .tc .vmem S1x257x24x128 .bf16) (h2 : M2.IsWhole)
    (M3 : Memref sig .tc .vmem S1x257x24x128 .bf16) (h3 : M3.IsWhole)
    (M4 : Memref sig .tc .vmem S1x257x16x128 .i8) (h4 : M4.IsWhole)
    (M5 : Memref sig .tc .vmem S1x257x16x128 .i8) (h5 : M5.IsWhole)
    (M6 : Memref sig .tc .vmem S1x257x16x128 .i8) (h6 : M6.IsWhole)
    (M7 : Memref sig .tc .vmem S1x257x16x128 .fp8e4m3) (h7 : M7.IsWhole)
    (M8 : Memref sig .tc .vmem S1x16x128 .f32) (h8 : M8.IsWhole)
    (M9 : Memref sig .tc .vmem S1x257x24x128 .bf16) (h9 : M9.IsWhole)
    (M10 : Memref sig .tc .vmem S1x257x24x128 .bf16) (h10 : M10.IsWhole)
    (M11 : Memref sig .tc .vmem S1x257x24x128 .bf16) (h11 : M11.IsWhole)
    (M12 : Memref sig .tc .vmem S1x257x24x128 .bf16) (h12 : M12.IsWhole)
    (M13 : Memref sig .tc .vmem S257x24x128 .bf16) (h13 : M13.IsWhole)
    (x7 : Vec Ideal S1x257x16x128 .fp8e4m3) (x8 : Vec Ideal S1x16x128 .f32)

/-- The scaled value at a place of the scratch array; zero where no trip stores. -/
def val (y : S257x24x128.Idx) : EReal :=
  if hh : (y 1).val < 16 then x7 (ix4 0 (y 0) ⟨(y 1).val, hh⟩ (y 2)) * x8 (ix3 0 ⟨(y 1).val, hh⟩ (y 2)) else 0

/-- The one piece of a trip. -/
theorem trip_eq (v6 : Vec Ideal S1x16x128 .f32) (X) (k : Fin k0_t1_loop.trips) :
    tripL_k0_t1 (F := Ideal) 𝒱₀ c none i M1 h1 M2 h2 M3 h3 M4 h4 M5 h5 M6 h6 M7 h7 M8 h8 M9 h9 M10 h10 M11 h11 M12 h12 M13 h13 v6 X k
      = [⟨Rect.unit (s := S257x24x128) (k0_off2 k) S1x16x128.size (k0_off2_inb k),
          k0_pay8 v6 (View.readAt (Elt Ideal) M7.view (Rect.unit (s := S1x257x16x128) (k0_off1 k) S1x1x16x128.size (k0_off1_inb k)).toLoadRect X)⟩] := by
  unfold tripL_k0_t1 trip_k0_t1
  rfl

/-- A trip's piece holds the scaled values of its row. -/
theorem piece_eq (k : Fin k0_t1_loop.trips) (x : S1x16x128.Idx) :
    k0_pay8 (View.readAt (Elt Ideal) M8.view (Rect.unit ![0, 0, 0] S1x16x128.size inb_S1x16x128_S1x16x128_0_0_0).toLoadRect (h8.unread x8))
        (View.readAt (Elt Ideal) M7.view (Rect.unit (s := S1x257x16x128) (k0_off1 k) S1x1x16x128.size (k0_off1_inb k)).toLoadRect (h7.unread x7)) x
      = val x7 x8 ((Rect.unit (s := S257x24x128) (k0_off2 k) S1x16x128.size (k0_off2_inb k)).emb x) := by
  have h1 : ∀ a, ((Rect.unit (s := S257x24x128) (k0_off2 k) S1x16x128.size (k0_off2_inb k)).emb x a).val = (![k.val, 0, 0] : Fin 3 → ℕ) a + (x a).val := by
    intro a
    rw [Rect.emb_apply]
    show k0_off2 k a + 1 * (x a).val = _
    rw [off2_eq, one_mul]
  have hl : (x 1).val < 16 := (x 1).isLt
  have e1 : ((Rect.unit (s := S257x24x128) (k0_off2 k) S1x16x128.size (k0_off2_inb k)).emb x 1).val = (x 1).val := (h1 1).trans (Nat.zero_add _)
  refine (pay8_apply _ _ x).trans ?_
  refine Eq.trans ?_ (dif_pos (e1.symm ▸ hl)).symm
  rw [readAt_unread, readAt_unread]
  refine congrArg₂ (· * ·) (congrArg x7 ?_) (congrArg x8 ?_)
  · funext a
    match a with
    | ⟨0, _⟩ => exact Fin.ext (by show k0_off1 k 0 + 1 * 0 = 0; rw [off1_eq]; rfl)
    | ⟨1, _⟩ => exact Fin.ext (by
        refine Eq.trans (b := k.val) ?_ ((h1 0).trans ?_).symm
        · show k0_off1 k 1 + 1 * 0 = _; rw [off1_eq]; rfl
        · have : (x 0).val < 1 := (x 0).isLt
          show k.val + (x 0).val = k.val; omega)
    | ⟨2, _⟩ => exact Fin.ext (by
        refine Eq.trans (b := (x 1).val) ?_ e1.symm
        show k0_off1 k 2 + 1 * (x 1).val = _; rw [off1_eq]; show 0 + 1 * (x 1).val = _; omega)
    | ⟨3, _⟩ => exact Fin.ext (by
        refine Eq.trans (b := (x 2).val) ?_ ((h1 2).trans (Nat.zero_add _)).symm
        show k0_off1 k 3 + 1 * (x 2).val = _; rw [off1_eq]; show 0 + 1 * (x 2).val = _; omega)
  · funext a
    match a with
    | ⟨0, _⟩ => rfl
    | ⟨1, _⟩ => exact Fin.ext (by
        refine Eq.trans (b := (x 1).val) ?_ e1.symm
        show 0 + 1 * (x 1).val = _; omega)
    | ⟨2, _⟩ => exact Fin.ext (by
        refine Eq.trans (b := (x 2).val) ?_ ((h1 2).trans (Nat.zero_add _)).symm
        show 0 + 1 * (x 2).val = _; omega)

/-- Every piece before trip `n` holds scaled values. -/
theorem pieces_eq (n : ℕ) (hn : n ≤ k0_t1_loop.trips) :
    ∀ p ∈ pb_k0_t1 (F := Ideal) 𝒱₀ c none i M1 h1 M2 h2 M3 h3 M4 h4 M5 h5 M6 h6 M7 h7 M8 h8 M9 h9 M10 h10 M11 h11 M12 h12 M13 h13
        (View.readAt (Elt Ideal) M8.view (Rect.unit ![0, 0, 0] S1x16x128.size inb_S1x16x128_S1x16x128_0_0_0).toLoadRect (h8.unread x8)) (h7.unread x7) n,
      ∀ x : p.1.shape.Idx, p.2 x = val x7 x8 (p.1.emb x) := by
  induction n with
  | zero => intro p hp; exact absurd hp List.not_mem_nil
  | succ n ih =>
    intro p hp
    rw [pb_k0_t1_succ 𝒱₀ c none i M1 h1 M2 h2 M3 h3 M4 h4 M5 h5 M6 h6 M7 h7 M8 h8 M9 h9 M10 h10 M11 h11 M12 h12 M13 h13 _ _ ⟨n, hn⟩, trip_eq, List.singleton_append, List.mem_cons] at hp
    rcases hp with rfl | hp
    · exact piece_eq M7 h7 M8 h8 x7 x8 ⟨n, hn⟩
    · exact ih (by omega) p hp

/-- The trips before `n` store every row below `n`. -/
theorem pieces_cover (n : ℕ) (hn : n ≤ k0_t1_loop.trips) (v6 : Vec Ideal S1x16x128 .f32) (X) (y : S257x24x128.Idx) (hy : (y 0).val < n) (hh : (y 1).val < 16) :
    ∃ p ∈ pb_k0_t1 (F := Ideal) 𝒱₀ c none i M1 h1 M2 h2 M3 h3 M4 h4 M5 h5 M6 h6 M7 h7 M8 h8 M9 h9 M10 h10 M11 h11 M12 h12 M13 h13 v6 X n, y ∈ p.1.set := by
  induction n with
  | zero => omega
  | succ n ih =>
    rw [pb_k0_t1_succ 𝒱₀ c none i M1 h1 M2 h2 M3 h3 M4 h4 M5 h5 M6 h6 M7 h7 M8 h8 M9 h9 M10 h10 M11 h11 M12 h12 M13 h13 _ _ ⟨n, hn⟩, trip_eq, List.singleton_append]
    by_cases h : (y 0).val = n
    · refine ⟨_, List.mem_cons_self, ?_⟩
      show y ∈ (Rect.unit (s := S257x24x128) (k0_off2 ⟨n, hn⟩) S1x16x128.size (k0_off2_inb ⟨n, hn⟩)).set
      rw [Rect.mem_set_unit, off2_eq]
      intro a
      match a with
      | ⟨0, _⟩ => exact ⟨h.ge, show (y 0).val < n + 1 by omega⟩
      | ⟨1, _⟩ => exact ⟨Nat.zero_le _, show (y 1).val < 0 + 16 by omega⟩
      | ⟨2, _⟩ => exact ⟨Nat.zero_le _, show (y 2).val < 0 + 128 by have : (y 2).val < 128 := (y 2).isLt; omega⟩
    · obtain ⟨p, hp, hm⟩ := ih (by omega) (by omega)
      exact ⟨p, List.mem_cons_of_mem _ hp, hm⟩

/-- The scratch array holds the scaled values. -/
theorem scratch_apply (d13 : Vec Ideal S257x24x128 .bf16) (y : S257x24x128.Idx) (hh : (y 1).val < 16) :
    scratch c i M1 h1 M2 h2 M3 h3 M4 h4 M5 h5 M6 h6 M7 h7 M8 h8 M9 h9 M10 h10 M11 h11 M12 h12 M13 h13 x7 x8 d13 y = val x7 x8 y :=
  View.read_writes_apply_of_pieces _ _ (val x7 x8) _
    (pieces_eq c i M1 h1 M2 h2 M3 h3 M4 h4 M5 h5 M6 h6 M7 h7 M8 h8 M9 h9 M10 h10 M11 h11 M12 h12 M13 h13 x7 x8 _ le_rfl) y
    (pieces_cover c i M1 h1 M2 h2 M3 h3 M4 h4 M5 h5 M6 h6 M7 h7 M8 h8 M9 h9 M10 h10 M11 h11 M12 h12 M13 h13 _ le_rfl _ _ y (trips_eq.symm ▸ (y 0).isLt) hh)

end Cert.Proof.Scratch
-- ==== Proof.Results.lean ====
module

public import proofs.«01_k».proof.Proof.HeadVals
public import proofs.«01_k».proof.Proof.Scratch

@[expose] public section

noncomputable section

/-! The three results as functions of the seven argument arrays, and a grid point's blocks against them. -/

namespace Cert.Proof.Results

open Cert.KernelIdeal Cert.Proof.Head Cert.Proof.HeadVals
open Idealize.ShloMosaic Idealize.ShloMosaic.TcCoe

/-- The argument arrays: queries, keys, codes of the attention weights, their scales, codes of the values, their scales,
    and the output gradient. -/
structure Args where
  q : Vec Ideal S24x257x16x88 .bf16
  k : Vec Ideal S24x257x16x88 .bf16
  pc : Vec Ideal S24x16x257x257 .i8
  ps : Vec Ideal S16 .f32
  vc : Vec Ideal S24x257x16x88 .fp8e4m3
  vs : Vec Ideal S24x16x88 .f32
  g : Vec Ideal S24x257x16x88 .bf16

/-- Batch element `b`, head `h`: the output gradient, the scaled values and the codes of the weights. -/
def gA (A : Args) (b : Fin 24) (h : Fin 16) (r : Fin 257) (d : Fin 88) : EReal := A.g (ix4 b r h d)
def vA (A : Args) (b : Fin 24) (h : Fin 16) (r : Fin 257) (d : Fin 88) : EReal := A.vc (ix4 b r h d) * A.vs (ix3 b h d)
def cA (A : Args) (b : Fin 24) (h : Fin 16) (r c : Fin 257) : EReal := num (A.pc (ix4 b h r c))

/-- The query gradients. -/
def resQ (A : Args) (b : Fin 24) (r : Fin 257) (h : Fin 16) (d : Fin 88) : EReal :=
  Spec.dq (gA A b h) (vA A b h) (cA A b h) (A.ps (ix1 h)) (fun c => A.k (ix4 b c h d)) r

/-- The key gradients. -/
def resK (A : Args) (b : Fin 24) (r : Fin 257) (h : Fin 16) (d : Fin 88) : EReal :=
  Spec.dk (gA A b h) (vA A b h) (cA A b h) (A.ps (ix1 h)) (fun c => A.q (ix4 b c h d)) r

/-- The value gradients. -/
def resV (A : Args) (b : Fin 24) (r : Fin 257) (h : Fin 16) (d : Fin 88) : EReal :=
  Spec.dv (cA A b h) (A.ps (ix1 h)) (fun c => gA A b h c d) r

/-- The blocks a grid point reads, the scratch array as its loop leaves it. -/
def insOf (x1 : Vec Ideal S16 .f32) (x2 x3 : Vec Ideal S1x257x24x128 .bf16) (x4 x5 x6 : Vec Ideal S1x257x16x128 .i8)
    (x7 : Vec Ideal S1x257x16x128 .fp8e4m3) (x8 : Vec Ideal S1x16x128 .f32) (x9 : Vec Ideal S1x257x24x128 .bf16) : Ins Ideal where
  sc := x1
  q := x2
  k := x3
  g := x9
  c0 := x4
  c1 := x5
  c2 := x6
  v := Scratch.val x7 x8

/-- The blocks a grid point reads are, within the arrays, batch element `b` of the arguments. -/
structure Reads (A : Args) (b : Fin 24) (x1 : Vec Ideal S16 .f32) (x2 x3 : Vec Ideal S1x257x24x128 .bf16) (x4 x5 x6 : Vec Ideal S1x257x16x128 .i8)
    (x7 : Vec Ideal S1x257x16x128 .fp8e4m3) (x8 : Vec Ideal S1x16x128 .f32) (x9 : Vec Ideal S1x257x24x128 .bf16) : Prop where
  h1 : ∀ h : Fin 16, x1 (ix1 h) = A.ps (ix1 h)
  h2 : ∀ (r : Fin 257) (h : Fin 16) (d : Fin 88), x2 (ix4 0 r ⟨h.val, by omega⟩ ⟨d.val, by omega⟩) = A.q (ix4 b r h d)
  h3 : ∀ (r : Fin 257) (h : Fin 16) (d : Fin 88), x3 (ix4 0 r ⟨h.val, by omega⟩ ⟨d.val, by omega⟩) = A.k (ix4 b r h d)
  h4 : ∀ (r : Fin 257) (h : Fin 16) (c : Fin 128), x4 (ix4 0 r h c) = A.pc (ix4 b h r ⟨c.val, by omega⟩)
  h5 : ∀ (r : Fin 257) (h : Fin 16) (c : Fin 128), x5 (ix4 0 r h c) = A.pc (ix4 b h r ⟨c.val + 128, by omega⟩)
  h6 : ∀ (r : Fin 257) (h : Fin 16), x6 (ix4 0 r h 0) = A.pc (ix4 b h r 256)
  h7 : ∀ (r : Fin 257) (h : Fin 16) (d : Fin 88), x7 (ix4 0 r h ⟨d.val, by omega⟩) = A.vc (ix4 b r h d)
  h8 : ∀ (h : Fin 16) (d : Fin 88), x8 (ix3 0 h ⟨d.val, by omega⟩) = A.vs (ix3 b h d)
  h9 : ∀ (r : Fin 257) (h : Fin 16) (d : Fin 88), x9 (ix4 0 r ⟨h.val, by omega⟩ ⟨d.val, by omega⟩) = A.g (ix4 b r h d)

variable {A : Args} {b : Fin 24} {x1 : Vec Ideal S16 .f32} {x2 x3 : Vec Ideal S1x257x24x128 .bf16} {x4 x5 x6 : Vec Ideal S1x257x16x128 .i8}
    {x7 : Vec Ideal S1x257x16x128 .fp8e4m3} {x8 : Vec Ideal S1x16x128 .f32} {x9 : Vec Ideal S1x257x24x128 .bf16}

/-- The output gradient of a head, read from blocks of the arguments, is that of the arguments. -/
theorem gAt_eq (H : Reads A b x1 x2 x3 x4 x5 x6 x7 x8 x9) (h : Fin 16) : gAt (insOf x1 x2 x3 x4 x5 x6 x7 x8 x9) h = gA A b h := by
  funext r d
  exact H.h9 r h d

/-- The scaled values of a head, read from blocks of the arguments, are those of the arguments. -/
theorem vAt_eq (H : Reads A b x1 x2 x3 x4 x5 x6 x7 x8 x9) (h : Fin 16) : vAt (insOf x1 x2 x3 x4 x5 x6 x7 x8 x9) h = vA A b h := by
  funext r d
  show Scratch.val x7 x8 (ix3 r ⟨h.val, by omega⟩ ⟨d.val, by omega⟩) = _
  unfold Scratch.val
  rw [dif_pos (show ((ix3 r ⟨h.val, by omega⟩ ⟨d.val, by omega⟩ : S257x24x128.Idx) 1).val < 16 from h.isLt)]
  exact congrArg₂ (· * ·) (H.h7 r h d) (H.h8 h d)

/-- The codes of a head, read from blocks of the arguments, are those of the arguments. -/
theorem cAt_eq (H : Reads A b x1 x2 x3 x4 x5 x6 x7 x8 x9) (h : Fin 16) : cAt (insOf x1 x2 x3 x4 x5 x6 x7 x8 x9) h = cA A b h := by
  funext r c
  unfold cAt cA
  by_cases h0 : c.val < 128
  · rw [dif_pos h0]
    exact congrArg num (H.h4 r h ⟨c.val, h0⟩)
  · rw [dif_neg h0]
    by_cases h1 : c.val < 256
    · rw [dif_pos h1]
      refine congrArg num ((H.h5 r h ⟨c.val - 128, by omega⟩).trans (congrArg (fun z => A.pc (ix4 b h r z)) (Fin.ext ?_)))
      show c.val - 128 + 128 = c.val
      omega
    · rw [dif_neg h1]
      have hc : c = 256 := Fin.ext (by show c.val = 256; omega)
      subst hc
      exact congrArg num (H.h6 r h)

/-- A grid point's query gradients, within the array. -/
theorem outQ_eq (H : Reads A b x1 x2 x3 x4 x5 x6 x7 x8 x9) (r : Fin 257) (h : Fin 16) (d : Fin 88) :
    outQ (insOf x1 x2 x3 x4 x5 x6 x7 x8 x9) (ix4 0 r ⟨h.val, by omega⟩ ⟨d.val, by omega⟩) = resQ A b r h d := by
  unfold outQ resQ
  rw [dif_pos (show ((ix4 0 r ⟨h.val, by omega⟩ ⟨d.val, by omega⟩ : S1x257x24x128.Idx) 2).val < 16 from h.isLt)]
  rw [← gAt_eq H h, ← vAt_eq H h, ← cAt_eq H h, ← H.h1 h]
  simp only [← H.h3]
  rfl

/-- A grid point's key gradients, within the array. -/
theorem outK_eq (H : Reads A b x1 x2 x3 x4 x5 x6 x7 x8 x9) (r : Fin 257) (h : Fin 16) (d : Fin 88) :
    outK (insOf x1 x2 x3 x4 x5 x6 x7 x8 x9) (ix4 0 r ⟨h.val, by omega⟩ ⟨d.val, by omega⟩) = resK A b r h d := by
  unfold outK resK
  rw [dif_pos (show ((ix4 0 r ⟨h.val, by omega⟩ ⟨d.val, by omega⟩ : S1x257x24x128.Idx) 2).val < 16 from h.isLt)]
  rw [← gAt_eq H h, ← vAt_eq H h, ← cAt_eq H h, ← H.h1 h]
  simp only [← H.h2]
  rfl

/-- A grid point's value gradients, within the array. -/
theorem outV_eq (H : Reads A b x1 x2 x3 x4 x5 x6 x7 x8 x9) (r : Fin 257) (h : Fin 16) (d : Fin 88) :
    outV (insOf x1 x2 x3 x4 x5 x6 x7 x8 x9) (ix4 0 r ⟨h.val, by omega⟩ ⟨d.val, by omega⟩) = resV A b r h d := by
  unfold outV resV
  rw [dif_pos (show ((ix4 0 r ⟨h.val, by omega⟩ ⟨d.val, by omega⟩ : S1x257x24x128.Idx) 2).val < 16 from h.isLt)]
  rw [← gAt_eq H h, ← cAt_eq H h, ← H.h1 h]
  exact congrArg (fun f => Spec.dv (cAt (insOf x1 x2 x3 x4 x5 x6 x7 x8 x9) h) (x1 (ix1 h)) f r) (funext fun c => dif_pos d.isLt)

end Cert.Proof.Results
-- ==== Proof.PiecesDq.lean ====
module

public import proofs.«01_k».proof.Proof.Pieces

@[expose] public section

set_option maxRecDepth 16384

noncomputable section

/-! One of the three arrays the body leaves is, pair of heads by pair of heads, the block function of the blocks it reads. -/

namespace Cert.Proof.Pieces

open Cert.KernelIdeal Cert.KernelIdeal.Gen Cert.Proof.RunI Cert.Proof.Head
open Idealize.ShloMosaic Idealize.ShloMosaic.TcCoe

variable {F : FTy → Type} [FloatOps F]

variable (c : Dev nD) (i : grid0.Coords)
    (M1 : Memref sig .tc .smem S16 .f32) (h1 : M1.IsWhole)
    (M2 : Memref sig .tc .vmem S1x257x24x128 .bf16) (h2 : M2.IsWhole)
    (M3 : Memref sig .tc .vmem S1x257x24x128 .bf16) (h3 : M3.IsWhole)
    (M4 : Memref sig .tc .vmem S1x257x16x128 .i8) (h4 : M4.IsWhole)
    (M5 : Memref sig .tc .vmem S1x257x16x128 .i8) (h5 : M5.IsWhole)
    (M6 : Memref sig .tc .vmem S1x257x16x128 .i8) (h6 : M6.IsWhole)
    (M7 : Memref sig .tc .vmem S1x257x16x128 .fp8e4m3) (h7 : M7.IsWhole)
    (M8 : Memref sig .tc .vmem S1x16x128 .f32) (h8 : M8.IsWhole)
    (M9 : Memref sig .tc .vmem S1x257x24x128 .bf16) (h9 : M9.IsWhole)
    (M10 : Memref sig .tc .vmem S1x257x24x128 .bf16) (h10 : M10.IsWhole)
    (M11 : Memref sig .tc .vmem S1x257x24x128 .bf16) (h11 : M11.IsWhole)
    (M12 : Memref sig .tc .vmem S1x257x24x128 .bf16) (h12 : M12.IsWhole)
    (M13 : Memref sig .tc .vmem S257x24x128 .bf16) (h13 : M13.IsWhole)
    (x1 : Vec F S16 .f32) (x2 x3 : Vec F S1x257x24x128 .bf16) (x4 x5 x6 : Vec F S1x257x16x128 .i8)
    (x7 : Vec F S1x257x16x128 .fp8e4m3) (x8 : Vec F S1x16x128 .f32) (x9 : Vec F S1x257x24x128 .bf16)
    (d10 d11 d12 : Vec F S1x257x24x128 .bf16) (d13 : Vec F S257x24x128 .bf16)

set_option maxHeartbeats 4000000 in
/-- What the body leaves in the query gradients, from the pieces it stores. -/
theorem dq_apply (G : S1x257x24x128.Idx → Elt F .bf16)
    (hM : ∀ (o q : ℕ) (sr : BitVec 32) (P : Pair o q sr) (x : S1x256x2x128.Idx),
      dqMain P (ins c i M1 h1 M2 h2 M3 h3 M4 h4 M5 h5 M6 h6 M7 h7 M8 h8 M9 h9 M10 h10 M11 h11 M12 h12 M13 h13 x1 x2 x3 x4 x5 x6 x7 x8 x9 d13) x = G ((Rect.unit (s := S1x257x24x128) ![0, 0, o, 0] S1x256x2x128.size (inbMain P)).emb x))
    (hL : ∀ (o q : ℕ) (sr : BitVec 32) (P : Pair o q sr) (x : S1x1x2x128.Idx),
      dqLast P (ins c i M1 h1 M2 h2 M3 h3 M4 h4 M5 h5 M6 h6 M7 h7 M8 h8 M9 h9 M10 h10 M11 h11 M12 h12 M13 h13 x1 x2 x3 x4 x5 x6 x7 x8 x9 d13) x = G ((Rect.unit (s := S1x257x24x128) ![0, 256, o, 0] S1x1x2x128.size (inbLast P)).emb x))
    (y : S1x257x24x128.Idx) (hy : (y 2).val < 16) :
    (kernelRun c i M1 h1 M2 h2 M3 h3 M4 h4 M5 h5 M6 h6 M7 h7 M8 h8 M9 h9 M10 h10 M11 h11 M12 h12 M13 h13 x1 x2 x3 x4 x5 x6 x7 x8 x9 d10 d11 d12 d13).1 y = G y := by
  unfold kernelRun
  refine View.read_writes_apply_of_pieces _ _ G _ ?_ y ?_
  · simp only [kernelRun.sl.H10_14, kernelRun.sl.H10_12, kernelRun.sl.H10_10, kernelRun.sl.H10_9, kernelRun.sl.H10_8, kernelRun.sl.H10_6, kernelRun.sl.H10_4, kernelRun.sl.H10_2, List.forall_mem_cons, List.not_mem_nil, false_imp_iff, implies_true, and_true]
    refine ⟨fun x => hL _ _ _ pair14 x,
      fun x => hM _ _ _ pair14 x,
      fun x => hL _ _ _ pair12 x,
      fun x => hM _ _ _ pair12 x,
      fun x => hL _ _ _ pair10 x,
      fun x => hM _ _ _ pair10 x,
      fun x => hL _ _ _ pair8 x,
      fun x => hM _ _ _ pair8 x,
      fun x => hL _ _ _ pair6 x,
      fun x => hM _ _ _ pair6 x,
      fun x => hL _ _ _ pair4 x,
      fun x => hM _ _ _ pair4 x,
      fun x => hL _ _ _ pair2 x,
      fun x => hM _ _ _ pair2 x,
      fun x => hL _ _ _ pair0 x,
      fun x => hM _ _ _ pair0 x⟩
  · exact cover _ rfl y hy

end Cert.Proof.Pieces
-- ==== Proof.PiecesDk.lean ====
module

public import proofs.«01_k».proof.Proof.Pieces

@[expose] public section

set_option maxRecDepth 16384

noncomputable section

/-! One of the three arrays the body leaves is, pair of heads by pair of heads, the block function of the blocks it reads. -/

namespace Cert.Proof.Pieces

open Cert.KernelIdeal Cert.KernelIdeal.Gen Cert.Proof.RunI Cert.Proof.Head
open Idealize.ShloMosaic Idealize.ShloMosaic.TcCoe

variable {F : FTy → Type} [FloatOps F]

variable (c : Dev nD) (i : grid0.Coords)
    (M1 : Memref sig .tc .smem S16 .f32) (h1 : M1.IsWhole)
    (M2 : Memref sig .tc .vmem S1x257x24x128 .bf16) (h2 : M2.IsWhole)
    (M3 : Memref sig .tc .vmem S1x257x24x128 .bf16) (h3 : M3.IsWhole)
    (M4 : Memref sig .tc .vmem S1x257x16x128 .i8) (h4 : M4.IsWhole)
    (M5 : Memref sig .tc .vmem S1x257x16x128 .i8) (h5 : M5.IsWhole)
    (M6 : Memref sig .tc .vmem S1x257x16x128 .i8) (h6 : M6.IsWhole)
    (M7 : Memref sig .tc .vmem S1x257x16x128 .fp8e4m3) (h7 : M7.IsWhole)
    (M8 : Memref sig .tc .vmem S1x16x128 .f32) (h8 : M8.IsWhole)
    (M9 : Memref sig .tc .vmem S1x257x24x128 .bf16) (h9 : M9.IsWhole)
    (M10 : Memref sig .tc .vmem S1x257x24x128 .bf16) (h10 : M10.IsWhole)
    (M11 : Memref sig .tc .vmem S1x257x24x128 .bf16) (h11 : M11.IsWhole)
    (M12 : Memref sig .tc .vmem S1x257x24x128 .bf16) (h12 : M12.IsWhole)
    (M13 : Memref sig .tc .vmem S257x24x128 .bf16) (h13 : M13.IsWhole)
    (x1 : Vec F S16 .f32) (x2 x3 : Vec F S1x257x24x128 .bf16) (x4 x5 x6 : Vec F S1x257x16x128 .i8)
    (x7 : Vec F S1x257x16x128 .fp8e4m3) (x8 : Vec F S1x16x128 .f32) (x9 : Vec F S1x257x24x128 .bf16)
    (d10 d11 d12 : Vec F S1x257x24x128 .bf16) (d13 : Vec F S257x24x128 .bf16)

set_option maxHeartbeats 4000000 in
/-- What the body leaves in the key gradients, from the pieces it stores. -/
theorem dk_apply (G : S1x257x24x128.Idx → Elt F .bf16)
    (hM : ∀ (o q : ℕ) (sr : BitVec 32) (P : Pair o q sr) (x : S1x256x2x128.Idx),
      dkMain P (ins c i M1 h1 M2 h2 M3 h3 M4 h4 M5 h5 M6 h6 M7 h7 M8 h8 M9 h9 M10 h10 M11 h11 M12 h12 M13 h13 x1 x2 x3 x4 x5 x6 x7 x8 x9 d13) x = G ((Rect.unit (s := S1x257x24x128) ![0, 0, o, 0] S1x256x2x128.size (inbMain P)).emb x))
    (hL : ∀ (o q : ℕ) (sr : BitVec 32) (P : Pair o q sr) (x : S1x1x2x128.Idx),
      dkLast P (ins c i M1 h1 M2 h2 M3 h3 M4 h4 M5 h5 M6 h6 M7 h7 M8 h8 M9 h9 M10 h10 M11 h11 M12 h12 M13 h13 x1 x2 x3 x4 x5 x6 x7 x8 x9 d13) x = G ((Rect.unit (s := S1x257x24x128) ![0, 256, o, 0] S1x1x2x128.size (inbLast P)).emb x))
    (y : S1x257x24x128.Idx) (hy : (y 2).val < 16) :
    (kernelRun c i M1 h1 M2 h2 M3 h3 M4 h4 M5 h5 M6 h6 M7 h7 M8 h8 M9 h9 M10 h10 M11 h11 M12 h12 M13 h13 x1 x2 x3 x4 x5 x6 x7 x8 x9 d10 d11 d12 d13).2.1 y = G y := by
  unfold kernelRun
  refine View.read_writes_apply_of_pieces _ _ G _ ?_ y ?_
  · simp only [kernelRun.sl.H11_14, kernelRun.sl.H11_12, kernelRun.sl.H11_10, kernelRun.sl.H11_8, kernelRun.sl.H11_6, kernelRun.sl.H11_4, kernelRun.sl.H11_3, kernelRun.sl.H11_2, List.forall_mem_cons, List.not_mem_nil, false_imp_iff, implies_true, and_true]
    refine ⟨fun x => hL _ _ _ pair14 x,
      fun x => hM _ _ _ pair14 x,
      fun x => hL _ _ _ pair12 x,
      fun x => hM _ _ _ pair12 x,
      fun x => hL _ _ _ pair10 x,
      fun x => hM _ _ _ pair10 x,
      fun x => hL _ _ _ pair8 x,
      fun x => hM _ _ _ pair8 x,
      fun x => hL _ _ _ pair6 x,
      fun x => hM _ _ _ pair6 x,
      fun x => hL _ _ _ pair4 x,
      fun x => hM _ _ _ pair4 x,
      fun x => hL _ _ _ pair2 x,
      fun x => hM _ _ _ pair2 x,
      fun x => hL _ _ _ pair0 x,
      fun x => hM _ _ _ pair0 x⟩
  · exact cover _ rfl y hy

end Cert.Proof.Pieces
-- ==== Proof.PiecesDv.lean ====
module

public import proofs.«01_k».proof.Proof.Pieces

@[expose] public section

set_option maxRecDepth 16384

noncomputable section

/-! One of the three arrays the body leaves is, pair of heads by pair of heads, the block function of the blocks it reads. -/

namespace Cert.Proof.Pieces

open Cert.KernelIdeal Cert.KernelIdeal.Gen Cert.Proof.RunI Cert.Proof.Head
open Idealize.ShloMosaic Idealize.ShloMosaic.TcCoe

variable {F : FTy → Type} [FloatOps F]

variable (c : Dev nD) (i : grid0.Coords)
    (M1 : Memref sig .tc .smem S16 .f32) (h1 : M1.IsWhole)
    (M2 : Memref sig .tc .vmem S1x257x24x128 .bf16) (h2 : M2.IsWhole)
    (M3 : Memref sig .tc .vmem S1x257x24x128 .bf16) (h3 : M3.IsWhole)
    (M4 : Memref sig .tc .vmem S1x257x16x128 .i8) (h4 : M4.IsWhole)
    (M5 : Memref sig .tc .vmem S1x257x16x128 .i8) (h5 : M5.IsWhole)
    (M6 : Memref sig .tc .vmem S1x257x16x128 .i8) (h6 : M6.IsWhole)
    (M7 : Memref sig .tc .vmem S1x257x16x128 .fp8e4m3) (h7 : M7.IsWhole)
    (M8 : Memref sig .tc .vmem S1x16x128 .f32) (h8 : M8.IsWhole)
    (M9 : Memref sig .tc .vmem S1x257x24x128 .bf16) (h9 : M9.IsWhole)
    (M10 : Memref sig .tc .vmem S1x257x24x128 .bf16) (h10 : M10.IsWhole)
    (M11 : Memref sig .tc .vmem S1x257x24x128 .bf16) (h11 : M11.IsWhole)
    (M12 : Memref sig .tc .vmem S1x257x24x128 .bf16) (h12 : M12.IsWhole)
    (M13 : Memref sig .tc .vmem S257x24x128 .bf16) (h13 : M13.IsWhole)
    (x1 : Vec F S16 .f32) (x2 x3 : Vec F S1x257x24x128 .bf16) (x4 x5 x6 : Vec F S1x257x16x128 .i8)
    (x7 : Vec F S1x257x16x128 .fp8e4m3) (x8 : Vec F S1x16x128 .f32) (x9 : Vec F S1x257x24x128 .bf16)
    (d10 d11 d12 : Vec F S1x257x24x128 .bf16) (d13 : Vec F S257x24x128 .bf16)

set_option maxHeartbeats 4000000 in
/-- What the body leaves in the value gradients, from the pieces it stores. -/
theorem dv_apply (G : S1x257x24x128.Idx → Elt F .bf16)
    (hM : ∀ (o q : ℕ) (sr : BitVec 32) (P : Pair o q sr) (x : S1x256x2x128.Idx),
      dvMain P (ins c i M1 h1 M2 h2 M3 h3 M4 h4 M5 h5 M6 h6 M7 h7 M8 h8 M9 h9 M10 h10 M11 h11 M12 h12 M13 h13 x1 x2 x3 x4 x5 x6 x7 x8 x9 d13) x = G ((Rect.unit (s := S1x257x24x128) ![0, 0, o, 0] S1x256x2x128.size (inbMain P)).emb x))
    (hL : ∀ (o q : ℕ) (sr : BitVec 32) (P : Pair o q sr) (x : S1x1x2x128.Idx),
      dvLast P (ins c i M1 h1 M2 h2 M3 h3 M4 h4 M5 h5 M6 h6 M7 h7 M8 h8 M9 h9 M10 h10 M11 h11 M12 h12 M13 h13 x1 x2 x3 x4 x5 x6 x7 x8 x9 d13) x = G ((Rect.unit (s := S1x257x24x128) ![0, 256, o, 0] S1x1x2x128.size (inbLast P)).emb x))
    (y : S1x257x24x128.Idx) (hy : (y 2).val < 16) :
    (kernelRun c i M1 h1 M2 h2 M3 h3 M4 h4 M5 h5 M6 h6 M7 h7 M8 h8 M9 h9 M10 h10 M11 h11 M12 h12 M13 h13 x1 x2 x3 x4 x5 x6 x7 x8 x9 d10 d11 d12 d13).2.2.1 y = G y := by
  unfold kernelRun
  refine View.read_writes_apply_of_pieces _ _ G _ ?_ y ?_
  · simp only [kernelRun.sl.H12_14, kernelRun.sl.H12_12, kernelRun.sl.H12_10, kernelRun.sl.H12_9, kernelRun.sl.H12_8, kernelRun.sl.H12_7, kernelRun.sl.H12_6, kernelRun.sl.H12_4, kernelRun.sl.H12_2, List.forall_mem_cons, List.not_mem_nil, false_imp_iff, implies_true, and_true]
    refine ⟨fun x => hL _ _ _ pair14 x,
      fun x => hM _ _ _ pair14 x,
      fun x => hL _ _ _ pair12 x,
      fun x => hM _ _ _ pair12 x,
      fun x => hL _ _ _ pair10 x,
      fun x => hM _ _ _ pair10 x,
      fun x => hL _ _ _ pair8 x,
      fun x => hM _ _ _ pair8 x,
      fun x => hL _ _ _ pair6 x,
      fun x => hM _ _ _ pair6 x,
      fun x => hL _ _ _ pair4 x,
      fun x => hM _ _ _ pair4 x,
      fun x => hL _ _ _ pair2 x,
      fun x => hM _ _ _ pair2 x,
      fun x => hL _ _ _ pair0 x,
      fun x => hM _ _ _ pair0 x⟩
  · exact cover _ rfl y hy

end Cert.Proof.Pieces
-- ==== Proof.BodyOut.lean ====
module

public import proofs.«01_k».proof.Proof.Results
public import proofs.«01_k».proof.Proof.PiecesDq
public import proofs.«01_k».proof.Proof.PiecesDk
public import proofs.«01_k».proof.Proof.PiecesDv

@[expose] public section

set_option maxRecDepth 16384

noncomputable section

/-! What the body leaves in its three arrays, as functions of the blocks it reads. -/

namespace Cert.Proof.BodyOut

open Cert.KernelIdeal Cert.KernelIdeal.Gen Cert.Proof.RunI Cert.Proof.Head Cert.Proof.HeadVals Cert.Proof.Results
open Idealize.ShloMosaic Idealize.ShloMosaic.TcCoe

variable (c : Dev nD) (i : grid0.Coords)
    (M1 : Memref sig .tc .smem S16 .f32) (h1 : M1.IsWhole)
    (M2 : Memref sig .tc .vmem S1x257x24x128 .bf16) (h2 : M2.IsWhole)
    (M3 : Memref sig .tc .vmem S1x257x24x128 .bf16) (h3 : M3.IsWhole)
    (M4 : Memref sig .tc .vmem S1x257x16x128 .i8) (h4 : M4.IsWhole)
    (M5 : Memref sig .tc .vmem S1x257x16x128 .i8) (h5 : M5.IsWhole)
    (M6 : Memref sig .tc .vmem S1x257x16x128 .i8) (h6 : M6.IsWhole)
    (M7 : Memref sig .tc .vmem S1x257x16x128 .fp8e4m3) (h7 : M7.IsWhole)
    (M8 : Memref sig .tc .vmem S1x16x128 .f32) (h8 : M8.IsWhole)
    (M9 : Memref sig .tc .vmem S1x257x24x128 .bf16) (h9 : M9.IsWhole)
    (M10 : Memref sig .tc .vmem S1x257x24x128 .bf16) (h10 : M10.IsWhole)
    (M11 : Memref sig .tc .vmem S1x257x24x128 .bf16) (h11 : M11.IsWhole)
    (M12 : Memref sig .tc .vmem S1x257x24x128 .bf16) (h12 : M12.IsWhole)
    (M13 : Memref sig .tc .vmem S257x24x128 .bf16) (h13 : M13.IsWhole)
    (x1 : Vec Ideal S16 .f32) (x2 x3 : Vec Ideal S1x257x24x128 .bf16) (x4 x5 x6 : Vec Ideal S1x257x16x128 .i8)
    (x7 : Vec Ideal S1x257x16x128 .fp8e4m3) (x8 : Vec Ideal S1x16x128 .f32) (x9 : Vec Ideal S1x257x24x128 .bf16)
    (d10 d11 d12 : Vec Ideal S1x257x24x128 .bf16) (d13 : Vec Ideal S257x24x128 .bf16)

/-- The blocks as the body reads them are the blocks, the scratch array as its loop leaves it. -/
theorem ins_eq : Pieces.ins c i M1 h1 M2 h2 M3 h3 M4 h4 M5 h5 M6 h6 M7 h7 M8 h8 M9 h9 M10 h10 M11 h11 M12 h12 M13 h13 x1 x2 x3 x4 x5 x6 x7 x8 x9 d13
    = { insOf x1 x2 x3 x4 x5 x6 x7 x8 x9 with v := Pieces.scratch c i M1 h1 M2 h2 M3 h3 M4 h4 M5 h5 M6 h6 M7 h7 M8 h8 M9 h9 M10 h10 M11 h11 M12 h12 M13 h13 x7 x8 d13 } := by
  unfold Pieces.ins insOf
  simp only [Memref.IsWhole.read_unread]

/-- The output gradient of a head, read from the inputs of the body, is the one read from the blocks it was given. -/
theorem gAt_ins (h : Fin 16) : gAt (Pieces.ins c i M1 h1 M2 h2 M3 h3 M4 h4 M5 h5 M6 h6 M7 h7 M8 h8 M9 h9 M10 h10 M11 h11 M12 h12 M13 h13 x1 x2 x3 x4 x5 x6 x7 x8 x9 d13) h = gAt (insOf x1 x2 x3 x4 x5 x6 x7 x8 x9) h := by
  rw [ins_eq]; rfl

/-- The codes of a head, read from the inputs of the body, are those read from the blocks it was given. -/
theorem cAt_ins (h : Fin 16) : cAt (Pieces.ins c i M1 h1 M2 h2 M3 h3 M4 h4 M5 h5 M6 h6 M7 h7 M8 h8 M9 h9 M10 h10 M11 h11 M12 h12 M13 h13 x1 x2 x3 x4 x5 x6 x7 x8 x9 d13) h = cAt (insOf x1 x2 x3 x4 x5 x6 x7 x8 x9) h := by
  rw [ins_eq]; rfl

/-- The scaled values of a head, read from the inputs of the body, are those read from the blocks it was given. -/
theorem vAt_ins (h : Fin 16) : vAt (Pieces.ins c i M1 h1 M2 h2 M3 h3 M4 h4 M5 h5 M6 h6 M7 h7 M8 h8 M9 h9 M10 h10 M11 h11 M12 h12 M13 h13 x1 x2 x3 x4 x5 x6 x7 x8 x9 d13) h = vAt (insOf x1 x2 x3 x4 x5 x6 x7 x8 x9) h := by
  rw [ins_eq]
  funext r d
  exact Scratch.scratch_apply c i M1 h1 M2 h2 M3 h3 M4 h4 M5 h5 M6 h6 M7 h7 M8 h8 M9 h9 M10 h10 M11 h11 M12 h12 M13 h13 x7 x8 d13 (ix3 r ⟨h.val, by omega⟩ ⟨d.val, by omega⟩) h.isLt

/-- The scales among the inputs of the body are the block of scales. -/
theorem sc_ins : (Pieces.ins c i M1 h1 M2 h2 M3 h3 M4 h4 M5 h5 M6 h6 M7 h7 M8 h8 M9 h9 M10 h10 M11 h11 M12 h12 M13 h13 x1 x2 x3 x4 x5 x6 x7 x8 x9 d13).sc = x1 := by rw [ins_eq]; rfl
/-- The q among the inputs of the body is the block of q. -/
theorem q_ins : (Pieces.ins c i M1 h1 M2 h2 M3 h3 M4 h4 M5 h5 M6 h6 M7 h7 M8 h8 M9 h9 M10 h10 M11 h11 M12 h12 M13 h13 x1 x2 x3 x4 x5 x6 x7 x8 x9 d13).q = x2 := by rw [ins_eq]; rfl
/-- The k among the inputs of the body is the block of k. -/
theorem k_ins : (Pieces.ins c i M1 h1 M2 h2 M3 h3 M4 h4 M5 h5 M6 h6 M7 h7 M8 h8 M9 h9 M10 h10 M11 h11 M12 h12 M13 h13 x1 x2 x3 x4 x5 x6 x7 x8 x9 d13).k = x3 := by rw [ins_eq]; rfl

/-- The dq of the inputs of the body is the dq of the blocks it was given. -/
theorem outQ_ins : outQ (Pieces.ins c i M1 h1 M2 h2 M3 h3 M4 h4 M5 h5 M6 h6 M7 h7 M8 h8 M9 h9 M10 h10 M11 h11 M12 h12 M13 h13 x1 x2 x3 x4 x5 x6 x7 x8 x9 d13) = outQ (insOf x1 x2 x3 x4 x5 x6 x7 x8 x9) := by
  funext y
  unfold outQ
  simp only [gAt_ins, vAt_ins, cAt_ins, sc_ins, k_ins]
  rfl

/-- What the body leaves in the query gradients. -/
theorem dq_body (y : S1x257x24x128.Idx) (hy : (y 2).val < 16) :
    (kernelRun c i M1 h1 M2 h2 M3 h3 M4 h4 M5 h5 M6 h6 M7 h7 M8 h8 M9 h9 M10 h10 M11 h11 M12 h12 M13 h13 x1 x2 x3 x4 x5 x6 x7 x8 x9 d10 d11 d12 d13).1 y
      = outQ (insOf x1 x2 x3 x4 x5 x6 x7 x8 x9) y :=
  Pieces.dq_apply c i M1 h1 M2 h2 M3 h3 M4 h4 M5 h5 M6 h6 M7 h7 M8 h8 M9 h9 M10 h10 M11 h11 M12 h12 M13 h13 x1 x2 x3 x4 x5 x6 x7 x8 x9 d10 d11 d12 d13 (outQ (insOf x1 x2 x3 x4 x5 x6 x7 x8 x9))
    (fun o q sr P x => (dqMain_eq P _ x).trans (congrFun (outQ_ins c i M1 h1 M2 h2 M3 h3 M4 h4 M5 h5 M6 h6 M7 h7 M8 h8 M9 h9 M10 h10 M11 h11 M12 h12 M13 h13 x1 x2 x3 x4 x5 x6 x7 x8 x9 d13) _))
    (fun o q sr P x => (dqLast_eq P _ x).trans (congrFun (outQ_ins c i M1 h1 M2 h2 M3 h3 M4 h4 M5 h5 M6 h6 M7 h7 M8 h8 M9 h9 M10 h10 M11 h11 M12 h12 M13 h13 x1 x2 x3 x4 x5 x6 x7 x8 x9 d13) _)) y hy

/-- The dk of the inputs of the body is the dk of the blocks it was given. -/
theorem outK_ins : outK (Pieces.ins c i M1 h1 M2 h2 M3 h3 M4 h4 M5 h5 M6 h6 M7 h7 M8 h8 M9 h9 M10 h10 M11 h11 M12 h12 M13 h13 x1 x2 x3 x4 x5 x6 x7 x8 x9 d13) = outK (insOf x1 x2 x3 x4 x5 x6 x7 x8 x9) := by
  funext y
  unfold outK
  simp only [gAt_ins, vAt_ins, cAt_ins, sc_ins, q_ins]
  rfl

/-- What the body leaves in the key gradients. -/
theorem dk_body (y : S1x257x24x128.Idx) (hy : (y 2).val < 16) :
    (kernelRun c i M1 h1 M2 h2 M3 h3 M4 h4 M5 h5 M6 h6 M7 h7 M8 h8 M9 h9 M10 h10 M11 h11 M12 h12 M13 h13 x1 x2 x3 x4 x5 x6 x7 x8 x9 d10 d11 d12 d13).2.1 y
      = outK (insOf x1 x2 x3 x4 x5 x6 x7 x8 x9) y :=
  Pieces.dk_apply c i M1 h1 M2 h2 M3 h3 M4 h4 M5 h5 M6 h6 M7 h7 M8 h8 M9 h9 M10 h10 M11 h11 M12 h12 M13 h13 x1 x2 x3 x4 x5 x6 x7 x8 x9 d10 d11 d12 d13 (outK (insOf x1 x2 x3 x4 x5 x6 x7 x8 x9))
    (fun o q sr P x => (dkMain_eq P _ x).trans (congrFun (outK_ins c i M1 h1 M2 h2 M3 h3 M4 h4 M5 h5 M6 h6 M7 h7 M8 h8 M9 h9 M10 h10 M11 h11 M12 h12 M13 h13 x1 x2 x3 x4 x5 x6 x7 x8 x9 d13) _))
    (fun o q sr P x => (dkLast_eq P _ x).trans (congrFun (outK_ins c i M1 h1 M2 h2 M3 h3 M4 h4 M5 h5 M6 h6 M7 h7 M8 h8 M9 h9 M10 h10 M11 h11 M12 h12 M13 h13 x1 x2 x3 x4 x5 x6 x7 x8 x9 d13) _)) y hy

/-- The dv of the inputs of the body is the dv of the blocks it was given. -/
theorem outV_ins : outV (Pieces.ins c i M1 h1 M2 h2 M3 h3 M4 h4 M5 h5 M6 h6 M7 h7 M8 h8 M9 h9 M10 h10 M11 h11 M12 h12 M13 h13 x1 x2 x3 x4 x5 x6 x7 x8 x9 d13) = outV (insOf x1 x2 x3 x4 x5 x6 x7 x8 x9) := by
  funext y
  unfold outV
  simp only [gAt_ins, cAt_ins, sc_ins]
  rfl

/-- What the body leaves in the value gradients. -/
theorem dv_body (y : S1x257x24x128.Idx) (hy : (y 2).val < 16) :
    (kernelRun c i M1 h1 M2 h2 M3 h3 M4 h4 M5 h5 M6 h6 M7 h7 M8 h8 M9 h9 M10 h10 M11 h11 M12 h12 M13 h13 x1 x2 x3 x4 x5 x6 x7 x8 x9 d10 d11 d12 d13).2.2.1 y
      = outV (insOf x1 x2 x3 x4 x5 x6 x7 x8 x9) y :=
  Pieces.dv_apply c i M1 h1 M2 h2 M3 h3 M4 h4 M5 h5 M6 h6 M7 h7 M8 h8 M9 h9 M10 h10 M11 h11 M12 h12 M13 h13 x1 x2 x3 x4 x5 x6 x7 x8 x9 d10 d11 d12 d13 (outV (insOf x1 x2 x3 x4 x5 x6 x7 x8 x9))
    (fun o q sr P x => (dvMain_eq P _ x).trans (congrFun (outV_ins c i M1 h1 M2 h2 M3 h3 M4 h4 M5 h5 M6 h6 M7 h7 M8 h8 M9 h9 M10 h10 M11 h11 M12 h12 M13 h13 x1 x2 x3 x4 x5 x6 x7 x8 x9 d13) _))
    (fun o q sr P x => (dvLast_eq P _ x).trans (congrFun (outV_ins c i M1 h1 M2 h2 M3 h3 M4 h4 M5 h5 M6 h6 M7 h7 M8 h8 M9 h9 M10 h10 M11 h11 M12 h12 M13 h13 x1 x2 x3 x4 x5 x6 x7 x8 x9 d13) _)) y hy

end Cert.Proof.BodyOut
-- ==== Proof.Blocks.lean ====
module

public import proofs.«01_k».proof.Proof.Results
public import Idealize.ShloMosaic.Lib.Pipeline.ValueKit
public import Idealize.ShloMosaic.Lib.StableHlo.ReadAt

@[expose] public section

set_option maxRecDepth 16384

noncomputable section

/-! The blocks a grid point reads, within their arrays: batch element `t` of the arguments. -/

namespace Cert.Proof.Blocks

open Cert.KernelIdeal Cert.KernelIdeal.Gen Cert.Proof.Results
open Idealize.ShloMosaic Idealize.ShloMosaic.TcCoe
open Idealize.ShloMosaic.Pipeline (Window)

variable (m : (ℓ : Loc nD τ sig) → Buf (Elt Ideal) ℓ)

/-- The arguments as the program finds them on device `c`. -/
def argsOf (c : Dev nD) : Args where
  q := m ((c.tc : Thread nD τ).loc main_arg0)
  k := m ((c.tc : Thread nD τ).loc main_arg1)
  pc := m ((c.tc : Thread nD τ).loc main_arg2)
  ps := m ((c.tc : Thread nD τ).loc main_arg3)
  vc := m ((c.tc : Thread nD τ).loc main_arg4)
  vs := m ((c.tc : Thread nD τ).loc main_arg5)
  g := m ((c.tc : Thread nD τ).loc main_arg6)

/-- The grid has 24 steps. -/
theorem N_eq : cfg0.N = 24 := by decide +kernel

/-- The batch element of a grid point. -/
def bOf (t : Fin cfg0.N) : Fin 24 := ⟨t.val, N_eq ▸ t.isLt⟩

/-- The codes as the region finds them: sequence before heads. -/
theorem V_main_v0_apply (c : Dev nD) (b : Fin 24) (r : Fin 257) (h : Fin 16) (d : Fin 257) :
    (V m c main_v0 : Vec Ideal S24x257x16x257 .i8) (ix4 b r h d) = (m ((c.tc : Thread nD τ).loc main_arg2) : Vec Ideal S24x16x257x257 .i8) (ix4 b h r d) := by
  unfold V
  after_reads_at

/-- The window on q moves one batch with each grid step. -/
theorem index_1 : ∀ t : Fin cfg0.N, (cfg0.win 1).index t = ![t.val, 0, 0, 0] := by decide +kernel
/-- The size of the part of the window on q that lies inside its array. -/
theorem xsize_1 : ∀ (t : Fin cfg0.N) (a : Fin 4), (cfg0.win 1).xsize (cfg0.grid.coords t) a = ![1, 257, 16, 88] a := by decide +kernel

/-- The block on q holds the elements of its array at the batch of the grid step. -/
theorem block_1 (c : Dev nD) (t : Fin cfg0.N) (d0) (r : Fin 257) (h : Fin 16) (d : Fin 88) :
    ((cfg0.win 1).fill (cfg0.grid.coords t) d0 (iblk m c 1 t) : Vec Ideal S1x257x24x128 .bf16) (ix4 0 r ⟨h.val, by omega⟩ ⟨d.val, by omega⟩)
      = (V m c main_arg0 : Vec Ideal S24x257x16x88 .bf16) (ix4 (bOf t) r h d) := by
  have hm : (cfg0.win 1).moved (cfg0.grid.coords t) (ix4 0 r ⟨h.val, by omega⟩ ⟨d.val, by omega⟩ : S1x257x24x128.Idx) = true := by
    refine ((cfg0.win 1).moved_iff _ _).mpr fun a => lt_of_lt_of_eq ?_ (xsize_1 t a).symm
    match a with
    | ⟨0, _⟩ => exact Nat.zero_lt_one
    | ⟨1, _⟩ => exact r.isLt
    | ⟨2, _⟩ => exact h.isLt
    | ⟨3, _⟩ => exact d.isLt
  unfold Window.fill
  rw [dif_pos hm]
  unfold iblk
  refine congrArg (V m c main_arg0 : Vec Ideal S24x257x16x88 .bf16) (funext fun a => Fin.ext ?_)
  refine ((cfg0.win 1).rect_emb_val t _ a).trans ?_
  rw [index_1]
  match a with
  | ⟨0, _⟩ => show t.val * 1 + 0 = t.val; omega
  | ⟨1, _⟩ => show 0 * 257 + r.val = r.val; omega
  | ⟨2, _⟩ => show 0 * 24 + h.val = h.val; omega
  | ⟨3, _⟩ => show 0 * 128 + d.val = d.val; omega

/-- The window on k moves one batch with each grid step. -/
theorem index_2 : ∀ t : Fin cfg0.N, (cfg0.win 2).index t = ![t.val, 0, 0, 0] := by decide +kernel
/-- The size of the part of the window on k that lies inside its array. -/
theorem xsize_2 : ∀ (t : Fin cfg0.N) (a : Fin 4), (cfg0.win 2).xsize (cfg0.grid.coords t) a = ![1, 257, 16, 88] a := by decide +kernel

/-- The block on k holds the elements of its array at the batch of the grid step. -/
theorem block_2 (c : Dev nD) (t : Fin cfg0.N) (d0) (r : Fin 257) (h : Fin 16) (d : Fin 88) :
    ((cfg0.win 2).fill (cfg0.grid.coords t) d0 (iblk m c 2 t) : Vec Ideal S1x257x24x128 .bf16) (ix4 0 r ⟨h.val, by omega⟩ ⟨d.val, by omega⟩)
      = (V m c main_arg1 : Vec Ideal S24x257x16x88 .bf16) (ix4 (bOf t) r h d) := by
  have hm : (cfg0.win 2).moved (cfg0.grid.coords t) (ix4 0 r ⟨h.val, by omega⟩ ⟨d.val, by omega⟩ : S1x257x24x128.Idx) = true := by
    refine ((cfg0.win 2).moved_iff _ _).mpr fun a => lt_of_lt_of_eq ?_ (xsize_2 t a).symm
    match a with
    | ⟨0, _⟩ => exact Nat.zero_lt_one
    | ⟨1, _⟩ => exact r.isLt
    | ⟨2, _⟩ => exact h.isLt
    | ⟨3, _⟩ => exact d.isLt
  unfold Window.fill
  rw [dif_pos hm]
  unfold iblk
  refine congrArg (V m c main_arg1 : Vec Ideal S24x257x16x88 .bf16) (funext fun a => Fin.ext ?_)
  refine ((cfg0.win 2).rect_emb_val t _ a).trans ?_
  rw [index_2]
  match a with
  | ⟨0, _⟩ => show t.val * 1 + 0 = t.val; omega
  | ⟨1, _⟩ => show 0 * 257 + r.val = r.val; omega
  | ⟨2, _⟩ => show 0 * 24 + h.val = h.val; omega
  | ⟨3, _⟩ => show 0 * 128 + d.val = d.val; omega

/-- The window on the first 128 columns of the codes moves one batch with each grid step. -/
theorem index_3 : ∀ t : Fin cfg0.N, (cfg0.win 3).index t = ![t.val, 0, 0, 0] := by decide +kernel
/-- The size of the part of the window on the first 128 columns of the codes that lies inside its array. -/
theorem xsize_3 : ∀ (t : Fin cfg0.N) (a : Fin 4), (cfg0.win 3).xsize (cfg0.grid.coords t) a = ![1, 257, 16, 128] a := by decide +kernel

/-- The block on the first 128 columns of the codes holds the elements of its array at the batch of the grid step. -/
theorem block_3 (c : Dev nD) (t : Fin cfg0.N) (d0) (r : Fin 257) (h : Fin 16) (d : Fin 128) :
    ((cfg0.win 3).fill (cfg0.grid.coords t) d0 (iblk m c 3 t) : Vec Ideal S1x257x16x128 .i8) (ix4 0 r ⟨h.val, by omega⟩ ⟨d.val, by omega⟩)
      = (V m c main_v0 : Vec Ideal S24x257x16x257 .i8) (ix4 (bOf t) r h ⟨0 + d.val, by omega⟩) := by
  have hm : (cfg0.win 3).moved (cfg0.grid.coords t) (ix4 0 r ⟨h.val, by omega⟩ ⟨d.val, by omega⟩ : S1x257x16x128.Idx) = true := by
    refine ((cfg0.win 3).moved_iff _ _).mpr fun a => lt_of_lt_of_eq ?_ (xsize_3 t a).symm
    match a with
    | ⟨0, _⟩ => exact Nat.zero_lt_one
    | ⟨1, _⟩ => exact r.isLt
    | ⟨2, _⟩ => exact h.isLt
    | ⟨3, _⟩ => exact d.isLt
  unfold Window.fill
  rw [dif_pos hm]
  unfold iblk
  refine congrArg (V m c main_v0 : Vec Ideal S24x257x16x257 .i8) (funext fun a => Fin.ext ?_)
  refine ((cfg0.win 3).rect_emb_val t _ a).trans ?_
  rw [index_3]
  match a with
  | ⟨0, _⟩ => show t.val * 1 + 0 = t.val; omega
  | ⟨1, _⟩ => show 0 * 257 + r.val = r.val; omega
  | ⟨2, _⟩ => show 0 * 16 + h.val = h.val; omega
  | ⟨3, _⟩ => show 0 * 128 + d.val = 0 + d.val; omega

/-- The window on the second 128 columns of the codes moves one batch with each grid step. -/
theorem index_4 : ∀ t : Fin cfg0.N, (cfg0.win 4).index t = ![t.val, 0, 0, 1] := by decide +kernel
/-- The size of the part of the window on the second 128 columns of the codes that lies inside its array. -/
theorem xsize_4 : ∀ (t : Fin cfg0.N) (a : Fin 4), (cfg0.win 4).xsize (cfg0.grid.coords t) a = ![1, 257, 16, 128] a := by decide +kernel

/-- The block on the second 128 columns of the codes holds the elements of its array at the batch of the grid step. -/
theorem block_4 (c : Dev nD) (t : Fin cfg0.N) (d0) (r : Fin 257) (h : Fin 16) (d : Fin 128) :
    ((cfg0.win 4).fill (cfg0.grid.coords t) d0 (iblk m c 4 t) : Vec Ideal S1x257x16x128 .i8) (ix4 0 r ⟨h.val, by omega⟩ ⟨d.val, by omega⟩)
      = (V m c main_v0 : Vec Ideal S24x257x16x257 .i8) (ix4 (bOf t) r h ⟨128 + d.val, by omega⟩) := by
  have hm : (cfg0.win 4).moved (cfg0.grid.coords t) (ix4 0 r ⟨h.val, by omega⟩ ⟨d.val, by omega⟩ : S1x257x16x128.Idx) = true := by
    refine ((cfg0.win 4).moved_iff _ _).mpr fun a => lt_of_lt_of_eq ?_ (xsize_4 t a).symm
    match a with
    | ⟨0, _⟩ => exact Nat.zero_lt_one
    | ⟨1, _⟩ => exact r.isLt
    | ⟨2, _⟩ => exact h.isLt
    | ⟨3, _⟩ => exact d.isLt
  unfold Window.fill
  rw [dif_pos hm]
  unfold iblk
  refine congrArg (V m c main_v0 : Vec Ideal S24x257x16x257 .i8) (funext fun a => Fin.ext ?_)
  refine ((cfg0.win 4).rect_emb_val t _ a).trans ?_
  rw [index_4]
  match a with
  | ⟨0, _⟩ => show t.val * 1 + 0 = t.val; omega
  | ⟨1, _⟩ => show 0 * 257 + r.val = r.val; omega
  | ⟨2, _⟩ => show 0 * 16 + h.val = h.val; omega
  | ⟨3, _⟩ => show 1 * 128 + d.val = 128 + d.val; omega

/-- The window on the last column of the codes moves one batch with each grid step. -/
theorem index_5 : ∀ t : Fin cfg0.N, (cfg0.win 5).index t = ![t.val, 0, 0, 2] := by decide +kernel
/-- The size of the part of the window on the last column of the codes that lies inside its array. -/
theorem xsize_5 : ∀ (t : Fin cfg0.N) (a : Fin 4), (cfg0.win 5).xsize (cfg0.grid.coords t) a = ![1, 257, 16, 1] a := by decide +kernel

/-- The block on the last column of the codes holds the elements of its array at the batch of the grid step. -/
theorem block_5 (c : Dev nD) (t : Fin cfg0.N) (d0) (r : Fin 257) (h : Fin 16) (d : Fin 1) :
    ((cfg0.win 5).fill (cfg0.grid.coords t) d0 (iblk m c 5 t) : Vec Ideal S1x257x16x128 .i8) (ix4 0 r ⟨h.val, by omega⟩ ⟨d.val, by omega⟩)
      = (V m c main_v0 : Vec Ideal S24x257x16x257 .i8) (ix4 (bOf t) r h ⟨256 + d.val, by omega⟩) := by
  have hm : (cfg0.win 5).moved (cfg0.grid.coords t) (ix4 0 r ⟨h.val, by omega⟩ ⟨d.val, by omega⟩ : S1x257x16x128.Idx) = true := by
    refine ((cfg0.win 5).moved_iff _ _).mpr fun a => lt_of_lt_of_eq ?_ (xsize_5 t a).symm
    match a with
    | ⟨0, _⟩ => exact Nat.zero_lt_one
    | ⟨1, _⟩ => exact r.isLt
    | ⟨2, _⟩ => exact h.isLt
    | ⟨3, _⟩ => exact d.isLt
  unfold Window.fill
  rw [dif_pos hm]
  unfold iblk
  refine congrArg (V m c main_v0 : Vec Ideal S24x257x16x257 .i8) (funext fun a => Fin.ext ?_)
  refine ((cfg0.win 5).rect_emb_val t _ a).trans ?_
  rw [index_5]
  match a with
  | ⟨0, _⟩ => show t.val * 1 + 0 = t.val; omega
  | ⟨1, _⟩ => show 0 * 257 + r.val = r.val; omega
  | ⟨2, _⟩ => show 0 * 16 + h.val = h.val; omega
  | ⟨3, _⟩ => show 2 * 128 + d.val = 256 + d.val; omega

/-- The window on the 8-bit values moves one batch with each grid step. -/
theorem index_6 : ∀ t : Fin cfg0.N, (cfg0.win 6).index t = ![t.val, 0, 0, 0] := by decide +kernel
/-- The size of the part of the window on the 8-bit values that lies inside its array. -/
theorem xsize_6 : ∀ (t : Fin cfg0.N) (a : Fin 4), (cfg0.win 6).xsize (cfg0.grid.coords t) a = ![1, 257, 16, 88] a := by decide +kernel

/-- The block on the 8-bit values holds the elements of its array at the batch of the grid step. -/
theorem block_6 (c : Dev nD) (t : Fin cfg0.N) (d0) (r : Fin 257) (h : Fin 16) (d : Fin 88) :
    ((cfg0.win 6).fill (cfg0.grid.coords t) d0 (iblk m c 6 t) : Vec Ideal S1x257x16x128 .fp8e4m3) (ix4 0 r ⟨h.val, by omega⟩ ⟨d.val, by omega⟩)
      = (V m c main_arg4 : Vec Ideal S24x257x16x88 .fp8e4m3) (ix4 (bOf t) r h d) := by
  have hm : (cfg0.win 6).moved (cfg0.grid.coords t) (ix4 0 r ⟨h.val, by omega⟩ ⟨d.val, by omega⟩ : S1x257x16x128.Idx) = true := by
    refine ((cfg0.win 6).moved_iff _ _).mpr fun a => lt_of_lt_of_eq ?_ (xsize_6 t a).symm
    match a with
    | ⟨0, _⟩ => exact Nat.zero_lt_one
    | ⟨1, _⟩ => exact r.isLt
    | ⟨2, _⟩ => exact h.isLt
    | ⟨3, _⟩ => exact d.isLt
  unfold Window.fill
  rw [dif_pos hm]
  unfold iblk
  refine congrArg (V m c main_arg4 : Vec Ideal S24x257x16x88 .fp8e4m3) (funext fun a => Fin.ext ?_)
  refine ((cfg0.win 6).rect_emb_val t _ a).trans ?_
  rw [index_6]
  match a with
  | ⟨0, _⟩ => show t.val * 1 + 0 = t.val; omega
  | ⟨1, _⟩ => show 0 * 257 + r.val = r.val; omega
  | ⟨2, _⟩ => show 0 * 16 + h.val = h.val; omega
  | ⟨3, _⟩ => show 0 * 128 + d.val = d.val; omega

/-- The window on the scales of the values moves one batch with each grid step. -/
theorem index_7 : ∀ t : Fin cfg0.N, (cfg0.win 7).index t = ![t.val, 0, 0] := by decide +kernel
/-- The size of the part of the window on the scales of the values that lies inside its array. -/
theorem xsize_7 : ∀ (t : Fin cfg0.N) (a : Fin 3), (cfg0.win 7).xsize (cfg0.grid.coords t) a = ![1, 16, 88] a := by decide +kernel

/-- The block on the scales of the values holds the elements of its array at the batch of the grid step. -/
theorem block_7 (c : Dev nD) (t : Fin cfg0.N) (d0) (h : Fin 16) (d : Fin 88) :
    ((cfg0.win 7).fill (cfg0.grid.coords t) d0 (iblk m c 7 t) : Vec Ideal S1x16x128 .f32) (ix3 0 h ⟨d.val, by omega⟩)
      = (V m c main_arg5 : Vec Ideal S24x16x88 .f32) (ix3 (bOf t) h d) := by
  have hm : (cfg0.win 7).moved (cfg0.grid.coords t) (ix3 0 h ⟨d.val, by omega⟩ : S1x16x128.Idx) = true := by
    refine ((cfg0.win 7).moved_iff _ _).mpr fun a => lt_of_lt_of_eq ?_ (xsize_7 t a).symm
    match a with
    | ⟨0, _⟩ => exact Nat.zero_lt_one
    | ⟨1, _⟩ => exact h.isLt
    | ⟨2, _⟩ => exact d.isLt
  unfold Window.fill
  rw [dif_pos hm]
  unfold iblk
  refine congrArg (V m c main_arg5 : Vec Ideal S24x16x88 .f32) (funext fun a => Fin.ext ?_)
  refine ((cfg0.win 7).rect_emb_val t _ a).trans ?_
  rw [index_7]
  match a with
  | ⟨0, _⟩ => show t.val * 1 + 0 = t.val; omega
  | ⟨1, _⟩ => show 0 * 16 + h.val = h.val; omega
  | ⟨2, _⟩ => show 0 * 128 + d.val = d.val; omega

/-- The window on the output gradient moves one batch with each grid step. -/
theorem index_8 : ∀ t : Fin cfg0.N, (cfg0.win 8).index t = ![t.val, 0, 0, 0] := by decide +kernel
/-- The size of the part of the window on the output gradient that lies inside its array. -/
theorem xsize_8 : ∀ (t : Fin cfg0.N) (a : Fin 4), (cfg0.win 8).xsize (cfg0.grid.coords t) a = ![1, 257, 16, 88] a := by decide +kernel

/-- The block on the output gradient holds the elements of its array at the batch of the grid step. -/
theorem block_8 (c : Dev nD) (t : Fin cfg0.N) (d0) (r : Fin 257) (h : Fin 16) (d : Fin 88) :
    ((cfg0.win 8).fill (cfg0.grid.coords t) d0 (iblk m c 8 t) : Vec Ideal S1x257x24x128 .bf16) (ix4 0 r ⟨h.val, by omega⟩ ⟨d.val, by omega⟩)
      = (V m c main_arg6 : Vec Ideal S24x257x16x88 .bf16) (ix4 (bOf t) r h d) := by
  have hm : (cfg0.win 8).moved (cfg0.grid.coords t) (ix4 0 r ⟨h.val, by omega⟩ ⟨d.val, by omega⟩ : S1x257x24x128.Idx) = true := by
    refine ((cfg0.win 8).moved_iff _ _).mpr fun a => lt_of_lt_of_eq ?_ (xsize_8 t a).symm
    match a with
    | ⟨0, _⟩ => exact Nat.zero_lt_one
    | ⟨1, _⟩ => exact r.isLt
    | ⟨2, _⟩ => exact h.isLt
    | ⟨3, _⟩ => exact d.isLt
  unfold Window.fill
  rw [dif_pos hm]
  unfold iblk
  refine congrArg (V m c main_arg6 : Vec Ideal S24x257x16x88 .bf16) (funext fun a => Fin.ext ?_)
  refine ((cfg0.win 8).rect_emb_val t _ a).trans ?_
  rw [index_8]
  match a with
  | ⟨0, _⟩ => show t.val * 1 + 0 = t.val; omega
  | ⟨1, _⟩ => show 0 * 257 + r.val = r.val; omega
  | ⟨2, _⟩ => show 0 * 24 + h.val = h.val; omega
  | ⟨3, _⟩ => show 0 * 128 + d.val = d.val; omega

/-- The window on the scales of the codes stays at the start of its array. -/
theorem index_0 : ∀ t : Fin cfg0.N, (cfg0.win 0).index t = ![0] := by decide +kernel

/-- The block on the scales of the codes holds the elements of its array. -/
theorem block_0 (c : Dev nD) (t : Fin cfg0.N) (h : Fin 16) :
    (iblk m c 0 t : Vec Ideal S16 .f32) (ix1 h) = (V m c main_arg3 : Vec Ideal S16 .f32) (ix1 h) := by
  unfold iblk
  refine congrArg (V m c main_arg3 : Vec Ideal S16 .f32) (funext fun a => Fin.ext ?_)
  refine ((cfg0.win 0).rect_emb_val t _ a).trans ?_
  rw [index_0]
  match a with
  | ⟨0, _⟩ => show 0 * 16 + h.val = h.val; omega

/-- The blocks of grid point `t` are batch element `t` of the arguments. -/
theorem reads (c : Dev nD) (t : Fin cfg0.N) (d1 d2 d3 d4 d5 d6 d7 d8) :
    Reads (argsOf m c) (bOf t) (iblk m c 0 t) ((cfg0.win 1).fill (cfg0.grid.coords t) d1 (iblk m c 1 t)) ((cfg0.win 2).fill (cfg0.grid.coords t) d2 (iblk m c 2 t))
    ((cfg0.win 3).fill (cfg0.grid.coords t) d3 (iblk m c 3 t)) ((cfg0.win 4).fill (cfg0.grid.coords t) d4 (iblk m c 4 t))
    ((cfg0.win 5).fill (cfg0.grid.coords t) d5 (iblk m c 5 t)) ((cfg0.win 6).fill (cfg0.grid.coords t) d6 (iblk m c 6 t))
    ((cfg0.win 7).fill (cfg0.grid.coords t) d7 (iblk m c 7 t)) ((cfg0.win 8).fill (cfg0.grid.coords t) d8 (iblk m c 8 t)) where
  h1 h := (block_0 m c t h).trans (congrFun (V_main_arg3 m c) _)
  h2 r h d := (block_1 m c t d1 r h d).trans (congrFun (V_main_arg0 m c) _)
  h3 r h d := (block_2 m c t d2 r h d).trans (congrFun (V_main_arg1 m c) _)
  h4 r h d := (block_3 m c t d3 r h d).trans ((V_main_v0_apply m c _ _ _ _).trans
    (congrArg (fun z => (argsOf m c).pc (ix4 (bOf t) h r z)) (Fin.ext (Nat.zero_add _))))
  h5 r h d := (block_4 m c t d4 r h d).trans ((V_main_v0_apply m c _ _ _ _).trans
    (congrArg (fun z => (argsOf m c).pc (ix4 (bOf t) h r z)) (Fin.ext (Nat.add_comm _ _))))
  h6 r h := (block_5 m c t d5 r h 0).trans (V_main_v0_apply m c _ _ _ _)
  h7 r h d := (block_6 m c t d6 r h d).trans (congrFun (V_main_arg4 m c) _)
  h8 h d := (block_7 m c t d7 h d).trans (congrFun (V_main_arg5 m c) _)
  h9 r h d := (block_8 m c t d8 r h d).trans (congrFun (V_main_arg6 m c) _)

end Cert.Proof.Blocks
-- ==== Proof.ValueI.lean ====
module

public import proofs.«01_k».proof.Proof.BodyOut
public import proofs.«01_k».proof.Proof.Blocks

@[expose] public section

set_option maxRecDepth 16384

noncomputable section

/-! The idealized kernel's run with its values: the three arrays end holding the three results of the arguments. -/

namespace Cert.Proof.ValueI

open Cert.KernelIdeal Cert.KernelIdeal.Gen Cert.Proof.RunI Cert.Proof.Results Cert.Proof.Blocks

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose cellOf ΦA)

local notation "𝕄" => MT nD τ sig Unit (Elt Ideal) ℕ (UR sig nD τ) ℕ

variable (m : (ℓ : Loc nD τ sig) → Buf (Elt Ideal) ℓ) (ρ : Dev nD → PrngReg)

/-- A window's block at point `t`, filled out past the array's end with arbitrary contents. -/
def filled (c : Dev nD) (w : Fin cfg0.W) (t : Fin cfg0.N) : (cfg0.win w).block.Idx → Elt Ideal (cfg0.win w).elt :=
  (cfg0.win w).fill (cfg0.grid.coords t) (fun _ => Classical.choice inferInstance) (iblk m c w t)

/-- A result's block at point `t`: batch element `t` of it, zero past the array's end. -/
def blockOf (R : Fin 24 → Fin 257 → Fin 16 → Fin 88 → EReal) (t : Fin cfg0.N) : Vec Ideal S1x257x24x128 .bf16 := fun y =>
  if h : (y 2).val < 16 ∧ (y 3).val < 88 then R (bOf t) (y 1) ⟨(y 2).val, h.1⟩ ⟨(y 3).val, h.2⟩ else (0 : EReal)

/-- A result as an array. -/
def arrOf (R : Fin 24 → Fin 257 → Fin 16 → Fin 88 → EReal) : Vec Ideal S24x257x16x88 .bf16 := fun y => R (y 0) (y 1) (y 2) (y 3)

/-- The proof data: each input's buffer keeps its block, each output's ends holding its result's block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => filled m c 1 t
    | ⟨2, _⟩ => filled m c 2 t
    | ⟨3, _⟩ => filled m c 3 t
    | ⟨4, _⟩ => filled m c 4 t
    | ⟨5, _⟩ => filled m c 5 t
    | ⟨6, _⟩ => filled m c 6 t
    | ⟨7, _⟩ => filled m c 7 t
    | ⟨8, _⟩ => filled m c 8 t
    | ⟨9, _⟩ => blockOf (resQ (argsOf m c)) t
    | ⟨10, _⟩ => blockOf (resK (argsOf m c)) t
    | ⟨11, _⟩ => blockOf (resV (argsOf m c)) t
  Φ _ := ΦA spec0 c
  q w := Pipeline.shareOf spec0 w
  owed _ := 0

/-- The array of a window is the value of its reference when the grid starts. -/
theorem A_eq (c : Dev nD) (w : Fin cfg0.W) : (dats m 0 c).A w = V m c (Pipeline.arrRef spec0 w) := by
  dsimp only [dats]

/-- After a grid step the window on the scales of the codes holds all of them. -/
theorem after_0 (c : Dev nD) (t : Fin cfg0.N) : (dats m 0 c).after 0 t = iblk m c 0 t := by dsimp only [dats]
/-- After a grid step the window on q holds its block, filled out past the end of its array. -/
theorem after_1 (c : Dev nD) (t : Fin cfg0.N) : (dats m 0 c).after 1 t = filled m c 1 t := by dsimp only [dats]
/-- After a grid step the window on k holds its block, filled out past the end of its array. -/
theorem after_2 (c : Dev nD) (t : Fin cfg0.N) : (dats m 0 c).after 2 t = filled m c 2 t := by dsimp only [dats]
/-- After a grid step the window on the first 128 columns of the codes holds its block, filled out past the end of its array. -/
theorem after_3 (c : Dev nD) (t : Fin cfg0.N) : (dats m 0 c).after 3 t = filled m c 3 t := by dsimp only [dats]
/-- After a grid step the window on the second 128 columns of the codes holds its block, filled out past the end of its array. -/
theorem after_4 (c : Dev nD) (t : Fin cfg0.N) : (dats m 0 c).after 4 t = filled m c 4 t := by dsimp only [dats]
/-- After a grid step the window on the last column of the codes holds its block, filled out past the end of its array. -/
theorem after_5 (c : Dev nD) (t : Fin cfg0.N) : (dats m 0 c).after 5 t = filled m c 5 t := by dsimp only [dats]
/-- After a grid step the window on the 8-bit values holds its block, filled out past the end of its array. -/
theorem after_6 (c : Dev nD) (t : Fin cfg0.N) : (dats m 0 c).after 6 t = filled m c 6 t := by dsimp only [dats]
/-- After a grid step the window on the scales of the values holds its block, filled out past the end of its array. -/
theorem after_7 (c : Dev nD) (t : Fin cfg0.N) : (dats m 0 c).after 7 t = filled m c 7 t := by dsimp only [dats]
/-- After a grid step the window on the output gradient holds its block, filled out past the end of its array. -/
theorem after_8 (c : Dev nD) (t : Fin cfg0.N) : (dats m 0 c).after 8 t = filled m c 8 t := by dsimp only [dats]

/-- After a grid step the window on dq holds the block of dq of that step. -/
theorem after_9 (c : Dev nD) (t : Fin cfg0.N) : (dats m 0 c).after 9 t = blockOf (resQ (argsOf m c)) t := by dsimp only [dats]
/-- After a grid step the window on dk holds the block of dk of that step. -/
theorem after_10 (c : Dev nD) (t : Fin cfg0.N) : (dats m 0 c).after 10 t = blockOf (resK (argsOf m c)) t := by dsimp only [dats]
/-- After a grid step the window on dv holds the block of dv of that step. -/
theorem after_11 (c : Dev nD) (t : Fin cfg0.N) : (dats m 0 c).after 11 t = blockOf (resV (argsOf m c)) t := by dsimp only [dats]

/-- Before a grid step the window on the scales of the codes holds all of them. -/
theorem before_0 (c : Dev nD) (t : Fin cfg0.N) (d) : (dats m 0 c).before 0 t d = iblk m c 0 t :=
  before0_0_of m (dats m 0 c) (A_eq m c 0) (after_0 m c) t d
/-- Before a grid step the window on q holds the block of its array, with what was there outside the array. -/
theorem before_1 (c : Dev nD) (t : Fin cfg0.N) (d) :
    (dats m 0 c).before 1 t d = (cfg0.win 1).fill (cfg0.grid.coords t) d (iblk m c 1 t) := by
  unfold Dat.before; rw [if_pos (fetch0_1 t)]; rfl
/-- Before a grid step the window on k holds the block of its array, with what was there outside the array. -/
theorem before_2 (c : Dev nD) (t : Fin cfg0.N) (d) :
    (dats m 0 c).before 2 t d = (cfg0.win 2).fill (cfg0.grid.coords t) d (iblk m c 2 t) := by
  unfold Dat.before; rw [if_pos (fetch0_2 t)]; rfl
/-- Before a grid step the window on the first 128 columns of the codes holds the block of its array, with what was there
outside the array. -/
theorem before_3 (c : Dev nD) (t : Fin cfg0.N) (d) :
    (dats m 0 c).before 3 t d = (cfg0.win 3).fill (cfg0.grid.coords t) d (iblk m c 3 t) := by
  unfold Dat.before; rw [if_pos (fetch0_3 t)]; rfl
/-- Before a grid step the window on the second 128 columns of the codes holds the block of its array, with what was there
outside the array. -/
theorem before_4 (c : Dev nD) (t : Fin cfg0.N) (d) :
    (dats m 0 c).before 4 t d = (cfg0.win 4).fill (cfg0.grid.coords t) d (iblk m c 4 t) := by
  unfold Dat.before; rw [if_pos (fetch0_4 t)]; rfl
/-- Before a grid step the window on the last column of the codes holds the block of its array, with what was there outside
the array. -/
theorem before_5 (c : Dev nD) (t : Fin cfg0.N) (d) :
    (dats m 0 c).before 5 t d = (cfg0.win 5).fill (cfg0.grid.coords t) d (iblk m c 5 t) := by
  unfold Dat.before; rw [if_pos (fetch0_5 t)]; rfl
/-- Before a grid step the window on the 8-bit values holds the block of its array, with what was there outside the array. -/
theorem before_6 (c : Dev nD) (t : Fin cfg0.N) (d) :
    (dats m 0 c).before 6 t d = (cfg0.win 6).fill (cfg0.grid.coords t) d (iblk m c 6 t) := by
  unfold Dat.before; rw [if_pos (fetch0_6 t)]; rfl
/-- Before a grid step the window on the scales of the values holds the block of its array, with what was there outside the
array. -/
theorem before_7 (c : Dev nD) (t : Fin cfg0.N) (d) :
    (dats m 0 c).before 7 t d = (cfg0.win 7).fill (cfg0.grid.coords t) d (iblk m c 7 t) := by
  unfold Dat.before; rw [if_pos (fetch0_7 t)]; rfl
/-- Before a grid step the window on the output gradient holds the block of its array, with what was there outside the array. -/
theorem before_8 (c : Dev nD) (t : Fin cfg0.N) (d) :
    (dats m 0 c).before 8 t d = (cfg0.win 8).fill (cfg0.grid.coords t) d (iblk m c 8 t) := by
  unfold Dat.before; rw [if_pos (fetch0_8 t)]; rfl

/-- The scoped rest is the scratch array, owned whole at some contents. -/
theorem scratch_eq (c : Dev nD) : (Pipeline.scopedRest spec0 c : sProp 𝕄)
    = iprop(∃ d : Vec Ideal S257x24x128 .bf16, owns (c : Thread nD τ) (Memref.whole cc0_scratch0) fullShare d) := by
  rw [scopedRest0_eq]
  exact congrArg _ (funext fun f => (owns_whole (c : Thread nD τ) cc0_scratch0 fullShare f).symm)

/-- The input windows' part of what the body is called with. -/
def preIn (c : Dev nD) (t : Fin cfg0.N) (R : sProp 𝕄) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ R)

/-- The input windows' part of what it returns. -/
def postIn (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t))))
    ∗ (∃ d, owns (c : Thread nD τ) (st0_5 t) fullShare ((cfg0.win 5).fill (cfg0.grid.coords t) d ((cfg0.win 5).cut (cfg0.grid.coords t) ((dats m 0 c).after 5 t))))
    ∗ (∃ d, owns (c : Thread nD τ) (st0_6 t) fullShare ((cfg0.win 6).fill (cfg0.grid.coords t) d ((cfg0.win 6).cut (cfg0.grid.coords t) ((dats m 0 c).after 6 t))))
    ∗ (∃ d, owns (c : Thread nD τ) (st0_7 t) fullShare ((cfg0.win 7).fill (cfg0.grid.coords t) d ((cfg0.win 7).cut (cfg0.grid.coords t) ((dats m 0 c).after 7 t))))
    ∗ (∃ d, owns (c : Thread nD τ) (st0_8 t) fullShare ((cfg0.win 8).fill (cfg0.grid.coords t) d ((cfg0.win 8).cut (cfg0.grid.coords t) ((dats m 0 c).after 8 t))))
    ∗ R)

/-- The size of the part of the window on dq that lies inside its array. -/
theorem xsize_9 : ∀ (t : Fin cfg0.N) (a : Fin 4), (cfg0.win 9).xsize (cfg0.grid.coords t) a = ![1, 257, 16, 88] a := by decide +kernel

/-- A block that is, within the array, a result's block. -/
theorem fill_9 (R : Fin 24 → Fin 257 → Fin 16 → Fin 88 → EReal) (t : Fin cfg0.N) (Y : Vec Ideal S1x257x24x128 .bf16)
    (hY : ∀ (r : Fin 257) (h : Fin 16) (d : Fin 88), Y (ix4 0 r ⟨h.val, by omega⟩ ⟨d.val, by omega⟩) = R (bOf t) r h d) :
    (cfg0.win 9).fill (cfg0.grid.coords t) Y ((cfg0.win 9).cut (cfg0.grid.coords t) (blockOf R t)) = Y := by
  funext y
  unfold Window.fill
  split
  · rename_i hm
    have hx := ((cfg0.win 9).moved_iff _ y).mp hm
    have h2 : (y (2 : Fin 4)).val < 16 := lt_of_lt_of_eq (hx (2 : Fin 4)) (xsize_9 t 2)
    have h3 : (y (3 : Fin 4)).val < 88 := lt_of_lt_of_eq (hx (3 : Fin 4)) (xsize_9 t 3)
    show blockOf R t y = Y y
    unfold blockOf
    rw [dif_pos ⟨h2, h3⟩]
    refine (hY (y (1 : Fin 4)) ⟨(y (2 : Fin 4)).val, h2⟩ ⟨(y (3 : Fin 4)).val, h3⟩).symm.trans (congrArg Y (funext fun a => ?_))
    match a with
    | ⟨0, _⟩ => exact Fin.ext (by have : (y (0 : Fin 4)).val < 1 := (y (0 : Fin 4)).isLt; show 0 = (y (0 : Fin 4)).val; omega)
    | ⟨1, _⟩ => rfl
    | ⟨2, _⟩ => rfl
    | ⟨3, _⟩ => rfl
  · rfl

/-- The size of the part of the window on dk that lies inside its array. -/
theorem xsize_10 : ∀ (t : Fin cfg0.N) (a : Fin 4), (cfg0.win 10).xsize (cfg0.grid.coords t) a = ![1, 257, 16, 88] a := by decide +kernel

/-- A block that is, within the array, a result's block. -/
theorem fill_10 (R : Fin 24 → Fin 257 → Fin 16 → Fin 88 → EReal) (t : Fin cfg0.N) (Y : Vec Ideal S1x257x24x128 .bf16)
    (hY : ∀ (r : Fin 257) (h : Fin 16) (d : Fin 88), Y (ix4 0 r ⟨h.val, by omega⟩ ⟨d.val, by omega⟩) = R (bOf t) r h d) :
    (cfg0.win 10).fill (cfg0.grid.coords t) Y ((cfg0.win 10).cut (cfg0.grid.coords t) (blockOf R t)) = Y := by
  funext y
  unfold Window.fill
  split
  · rename_i hm
    have hx := ((cfg0.win 10).moved_iff _ y).mp hm
    have h2 : (y (2 : Fin 4)).val < 16 := lt_of_lt_of_eq (hx (2 : Fin 4)) (xsize_10 t 2)
    have h3 : (y (3 : Fin 4)).val < 88 := lt_of_lt_of_eq (hx (3 : Fin 4)) (xsize_10 t 3)
    show blockOf R t y = Y y
    unfold blockOf
    rw [dif_pos ⟨h2, h3⟩]
    refine (hY (y (1 : Fin 4)) ⟨(y (2 : Fin 4)).val, h2⟩ ⟨(y (3 : Fin 4)).val, h3⟩).symm.trans (congrArg Y (funext fun a => ?_))
    match a with
    | ⟨0, _⟩ => exact Fin.ext (by have : (y (0 : Fin 4)).val < 1 := (y (0 : Fin 4)).isLt; show 0 = (y (0 : Fin 4)).val; omega)
    | ⟨1, _⟩ => rfl
    | ⟨2, _⟩ => rfl
    | ⟨3, _⟩ => rfl
  · rfl

/-- The size of the part of the window on dv that lies inside its array. -/
theorem xsize_11 : ∀ (t : Fin cfg0.N) (a : Fin 4), (cfg0.win 11).xsize (cfg0.grid.coords t) a = ![1, 257, 16, 88] a := by decide +kernel

/-- A block that is, within the array, a result's block. -/
theorem fill_11 (R : Fin 24 → Fin 257 → Fin 16 → Fin 88 → EReal) (t : Fin cfg0.N) (Y : Vec Ideal S1x257x24x128 .bf16)
    (hY : ∀ (r : Fin 257) (h : Fin 16) (d : Fin 88), Y (ix4 0 r ⟨h.val, by omega⟩ ⟨d.val, by omega⟩) = R (bOf t) r h d) :
    (cfg0.win 11).fill (cfg0.grid.coords t) Y ((cfg0.win 11).cut (cfg0.grid.coords t) (blockOf R t)) = Y := by
  funext y
  unfold Window.fill
  split
  · rename_i hm
    have hx := ((cfg0.win 11).moved_iff _ y).mp hm
    have h2 : (y (2 : Fin 4)).val < 16 := lt_of_lt_of_eq (hx (2 : Fin 4)) (xsize_11 t 2)
    have h3 : (y (3 : Fin 4)).val < 88 := lt_of_lt_of_eq (hx (3 : Fin 4)) (xsize_11 t 3)
    show blockOf R t y = Y y
    unfold blockOf
    rw [dif_pos ⟨h2, h3⟩]
    refine (hY (y (1 : Fin 4)) ⟨(y (2 : Fin 4)).val, h2⟩ ⟨(y (3 : Fin 4)).val, h3⟩).symm.trans (congrArg Y (funext fun a => ?_))
    match a with
    | ⟨0, _⟩ => exact Fin.ext (by have : (y (0 : Fin 4)).val < 1 := (y (0 : Fin 4)).isLt; show 0 = (y (0 : Fin 4)).val; omega)
    | ⟨1, _⟩ => rfl
    | ⟨2, _⟩ => rfl
    | ⟨3, _⟩ => rfl
  · rfl

/-- The output windows' part of what the body is called with. -/
def preOut (c : Dev nD) (t : Fin cfg0.N) : sProp 𝕄 :=
  iprop((∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- The output windows' part of what it returns. -/
def postOut (c : Dev nD) (t : Fin cfg0.N) : sProp 𝕄 :=
  iprop((∃ d, owns (c : Thread nD τ) (st0_9 t) fullShare ((cfg0.win 9).fill (cfg0.grid.coords t) d ((cfg0.win 9).cut (cfg0.grid.coords t) ((dats m 0 c).after 9 t))))
    ∗ (∃ d, owns (c : Thread nD τ) (st0_10 t) fullShare ((cfg0.win 10).fill (cfg0.grid.coords t) d ((cfg0.win 10).cut (cfg0.grid.coords t) ((dats m 0 c).after 10 t))))
    ∗ (∃ d, owns (c : Thread nD τ) (st0_11 t) fullShare ((cfg0.win 11).fill (cfg0.grid.coords t) d ((cfg0.win 11).cut (cfg0.grid.coords t) ((dats m 0 c).after 11 t)))))

set_option maxHeartbeats 1000000 in
/-- The body at any point leaves the results' blocks. -/
theorem sound_body (c : Dev nD) (t : Fin cfg0.N) :
    preIn m c t (preOut m c t)
      ⊢ wp frame (wpE (defs₀ (F := Ideal)) Variants.none c none) Set.univ (bodyAt0 t) (fun _ =>
        postIn m c t (postOut m c t)) := by
  unfold preIn postIn preOut postOut bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  unfold filled
  simp only [Window.cut_fill]
  rw [show (dats m 0 c).Φ t.castSucc = ΦA spec0 c from rfl, show (ΦA spec0 c : sProp 𝕄) = iprop(Pipeline.scopedRest spec0 c ∗ ∃ r, prngReg c r) from rfl, scratch_eq c]
  iintro ⟨⟨⟨%fs, Hs⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((RunI.kernelRun c (grid0.coords t) _ _ _ _ _ _ _ _ _ _ _ _ _ _ _ _ _ _ _ _ _ _ _ _ (Memref.whole cc0_scratch0) (Memref.isWhole_whole _)
    (iblk m c 0 t) ((cfg0.win 1).fill (cfg0.grid.coords t) d1 (iblk m c 1 t)) ((cfg0.win 2).fill (cfg0.grid.coords t) d2 (iblk m c 2 t))
    ((cfg0.win 3).fill (cfg0.grid.coords t) d3 (iblk m c 3 t)) ((cfg0.win 4).fill (cfg0.grid.coords t) d4 (iblk m c 4 t))
    ((cfg0.win 5).fill (cfg0.grid.coords t) d5 (iblk m c 5 t)) ((cfg0.win 6).fill (cfg0.grid.coords t) d6 (iblk m c 6 t))
    ((cfg0.win 7).fill (cfg0.grid.coords t) d7 (iblk m c 7 t)) ((cfg0.win 8).fill (cfg0.grid.coords t) d8 (iblk m c 8 t))
    ((dats m 0 c).before 9 t d9) ((dats m 0 c).before 10 t d10) ((dats m 0 c).before 11 t d11) fs).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hs]; · iexact Hs
  iintro ⟨H0, H1, H2, H3, H4, H5, H6, H7, H8, H9, H10, H11, ⟨%ds, Hs⟩⟩
  isplitl [Hs Hp]
  · isplitl [Hs]
    · iexists ds; iexact Hs
    iexact Hp
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  isplitl [H5]; · iexists d5; iexact H5
  isplitl [H6]; · iexists d6; iexact H6
  isplitl [H7]; · iexists d7; iexact H7
  isplitl [H8]; · iexists d8; iexact H8
  isplitl [H9]
  · iexists _
    rw [fill_9 (resQ (argsOf m c)) t _ (fun r h d => (BodyOut.dq_body _ _ _ _ _ _ _ _ _ _ _ _ _ _ _ _ _ _ _ _ _ _ _ _ _ _ _ _ _ _ _ _ _ _ _ _ _ _ _ _ _ _ h.isLt).trans (outQ_eq (reads m c t d1 d2 d3 d4 d5 d6 d7 d8) r h d))]
    iexact H9
  isplitl [H10]
  · iexists _
    rw [fill_10 (resK (argsOf m c)) t _ (fun r h d => (BodyOut.dk_body _ _ _ _ _ _ _ _ _ _ _ _ _ _ _ _ _ _ _ _ _ _ _ _ _ _ _ _ _ _ _ _ _ _ _ _ _ _ _ _ _ _ h.isLt).trans (outK_eq (reads m c t d1 d2 d3 d4 d5 d6 d7 d8) r h d))]
    iexact H10
  iexists _
  rw [fill_11 (resV (argsOf m c)) t _ (fun r h d => (BodyOut.dv_body _ _ _ _ _ _ _ _ _ _ _ _ _ _ _ _ _ _ _ _ _ _ _ _ _ _ _ _ _ _ _ _ _ _ _ _ _ _ _ _ _ _ h.isLt).trans (outV_eq (reads m c t d1 d2 d3 d4 d5 d6 d7 d8) r h d))]
  iexact H11

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationLoose (dats m 0 c) (defs₀ (F := Ideal)) Variants.none () Set.univ := fun t => by
  rw [bigSep_W0, bigSep_W0, defs₀_row]
  exact sound_body m c t

set_option backward.isDefEq.respectTransparency.types false in
set_option maxHeartbeats 800000 in
/-- The run: it terminates, the arrays end at what the proof data compute. -/
theorem run_main : θ_run defs (onTc (τ := τ) (main (F := Ideal))) (s₀ m ρ) (Pipeline.FramePost cfgs (dats m) 0 (V m)) :=
  Pipeline.θ_run_frame_shared cfgs (dats m) (0 : Fin 1) launch₀0 defs₀ Variants.none m ρ main
    (hbody := body_obligation m) (hq := fun _ _ _ => rfl)
    (howed := fun _ _ => rfl) (V := V m)
    (hmain := hmain m Variants.none) (hA := A_eq m) (hΦ := fun _ _ => rfl)

/-- A block of an array at a grid step holds the elements of the array at that batch. -/
theorem blockOf_at (R : Fin 24 → Fin 257 → Fin 16 → Fin 88 → EReal) (t : Fin cfg0.N) (i : S24x257x16x88.Idx) (y : S1x257x24x128.Idx)
    (h0 : (i 0).val = t.val) (h1 : (i 1).val = (y 1).val) (h2 : (i 2).val = (y 2).val) (h3 : (i 3).val = (y 3).val) :
    blockOf R t y = arrOf R i := by
  unfold blockOf arrOf
  have e2 : (y 2).val < 16 := h2 ▸ (i 2).isLt
  have e3 : (y 3).val < 88 := h3 ▸ (i 3).isLt
  rw [dif_pos ⟨e2, e3⟩]
  rw [show bOf t = i 0 from Fin.ext h0.symm, show y 1 = i 1 from Fin.ext h1.symm, show (⟨(y 2).val, e2⟩ : Fin 16) = i 2 from Fin.ext h2.symm,
    show (⟨(y 3).val, e3⟩ : Fin 88) = i 3 from Fin.ext h3.symm]

/-- The window on dq moves one batch with each grid step. -/
theorem index_9 : ∀ t : Fin cfg0.N, (cfg0.win 9).index t = ![t.val, 0, 0, 0] := by decide +kernel

/-- The array of window 9 ends holding the result. -/
theorem arr_9 (c : Dev nD) : (dats m 0 c).arrAt 9 cfg0.N = arrOf (resQ (argsOf m c)) := by
  refine (dats m 0 c).arrAt_eq_of_covers 9 _ (by decide +kernel) fun t hf y => ?_
  rw [after_9]
  refine blockOf_at _ t _ _ ?_ ?_ ?_ ?_
  · exact ((cfg0.win 9).rect_emb_val t y (0 : Fin 4)).trans (by rw [index_9]; show t.val * 1 + (y (0 : Fin 4)).val = t.val; have : (y (0 : Fin 4)).val < 1 := lt_of_lt_of_eq (y (0 : Fin 4)).isLt (xsize_9 t 0); omega)
  · exact ((cfg0.win 9).rect_emb_val t y (1 : Fin 4)).trans (by rw [index_9]; show 0 * 257 + (y (1 : Fin 4)).val = (y (1 : Fin 4)).val; omega)
  · exact ((cfg0.win 9).rect_emb_val t y (2 : Fin 4)).trans (by rw [index_9]; show 0 * 24 + (y (2 : Fin 4)).val = (y (2 : Fin 4)).val; omega)
  · exact ((cfg0.win 9).rect_emb_val t y (3 : Fin 4)).trans (by rw [index_9]; show 0 * 128 + (y (3 : Fin 4)).val = (y (3 : Fin 4)).val; omega)

/-- The window on dk moves one batch with each grid step. -/
theorem index_10 : ∀ t : Fin cfg0.N, (cfg0.win 10).index t = ![t.val, 0, 0, 0] := by decide +kernel

/-- The array of window 10 ends holding the result. -/
theorem arr_10 (c : Dev nD) : (dats m 0 c).arrAt 10 cfg0.N = arrOf (resK (argsOf m c)) := by
  refine (dats m 0 c).arrAt_eq_of_covers 10 _ (by decide +kernel) fun t hf y => ?_
  rw [after_10]
  refine blockOf_at _ t _ _ ?_ ?_ ?_ ?_
  · exact ((cfg0.win 10).rect_emb_val t y (0 : Fin 4)).trans (by rw [index_10]; show t.val * 1 + (y (0 : Fin 4)).val = t.val; have : (y (0 : Fin 4)).val < 1 := lt_of_lt_of_eq (y (0 : Fin 4)).isLt (xsize_10 t 0); omega)
  · exact ((cfg0.win 10).rect_emb_val t y (1 : Fin 4)).trans (by rw [index_10]; show 0 * 257 + (y (1 : Fin 4)).val = (y (1 : Fin 4)).val; omega)
  · exact ((cfg0.win 10).rect_emb_val t y (2 : Fin 4)).trans (by rw [index_10]; show 0 * 24 + (y (2 : Fin 4)).val = (y (2 : Fin 4)).val; omega)
  · exact ((cfg0.win 10).rect_emb_val t y (3 : Fin 4)).trans (by rw [index_10]; show 0 * 128 + (y (3 : Fin 4)).val = (y (3 : Fin 4)).val; omega)

/-- The window on dv moves one batch with each grid step. -/
theorem index_11 : ∀ t : Fin cfg0.N, (cfg0.win 11).index t = ![t.val, 0, 0, 0] := by decide +kernel

/-- The array of window 11 ends holding the result. -/
theorem arr_11 (c : Dev nD) : (dats m 0 c).arrAt 11 cfg0.N = arrOf (resV (argsOf m c)) := by
  refine (dats m 0 c).arrAt_eq_of_covers 11 _ (by decide +kernel) fun t hf y => ?_
  rw [after_11]
  refine blockOf_at _ t _ _ ?_ ?_ ?_ ?_
  · exact ((cfg0.win 11).rect_emb_val t y (0 : Fin 4)).trans (by rw [index_11]; show t.val * 1 + (y (0 : Fin 4)).val = t.val; have : (y (0 : Fin 4)).val < 1 := lt_of_lt_of_eq (y (0 : Fin 4)).isLt (xsize_11 t 0); omega)
  · exact ((cfg0.win 11).rect_emb_val t y (1 : Fin 4)).trans (by rw [index_11]; show 0 * 257 + (y (1 : Fin 4)).val = (y (1 : Fin 4)).val; omega)
  · exact ((cfg0.win 11).rect_emb_val t y (2 : Fin 4)).trans (by rw [index_11]; show 0 * 24 + (y (2 : Fin 4)).val = (y (2 : Fin 4)).val; omega)
  · exact ((cfg0.win 11).rect_emb_val t y (3 : Fin 4)).trans (by rw [index_11]; show 0 * 128 + (y (3 : Fin 4)).val = (y (3 : Fin 4)).val; omega)

/-- THE VALUES: the program ends with the three results of its arguments, its arguments unchanged. -/
theorem values : θ_run defs (onTc (τ := τ) (main (F := Ideal))) ⟨m, fun _ => 0, ρ⟩ (fun r => ∀ c : Dev nD,
      r.2.mem ((c.tc : Thread nD τ).loc main_v1_0) = arrOf (resQ (argsOf m c))
      ∧ r.2.mem ((c.tc : Thread nD τ).loc main_v1_1) = arrOf (resK (argsOf m c))
      ∧ r.2.mem ((c.tc : Thread nD τ).loc main_v1_2) = arrOf (resV (argsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r (h : Pipeline.FramePost cfgs (dats m) 0 (V m) r) c => ⟨((h c).1 9).trans (arr_9 m c),
      ((h c).1 10).trans (arr_10 m c),
      ((h c).1 11).trans (arr_11 m c),
      (h.in_eq c 1 rfl).trans ((A_eq m c 1).trans (V_main_arg0 m c)),
      (h.in_eq c 2 rfl).trans ((A_eq m c 2).trans (V_main_arg1 m c)),
      ((h c).2 main_arg2 (Pipeline.mem_restRefs_of main_arg2 (by decide) (by decide))).trans (V_main_arg2 m c),
      (h.in_eq c 0 rfl).trans ((A_eq m c 0).trans (V_main_arg3 m c)),
      (h.in_eq c 6 rfl).trans ((A_eq m c 6).trans (V_main_arg4 m c)),
      (h.in_eq c 7 rfl).trans ((A_eq m c 7).trans (V_main_arg5 m c)),
      (h.in_eq c 8 rfl).trans ((A_eq m c 8).trans (V_main_arg6 m c))⟩) (run_main m ρ)

end Cert.Proof.ValueI
-- ==== Proof.RefTail.lean ====
module

public import proofs.«01_k».proof.Proof.Gen.ReferenceIdeal.Frame
public import proofs.«01_k».proof.Proof.Results
public import Idealize.ShloMosaic.Lib.StableHlo.ReadAt
public import Idealize.ShloMosaic.Lib.Pointwise

@[expose] public section

set_option maxRecDepth 16384

noncomputable section

/-! The reference's host lines after its casts, read at an index. -/

namespace Cert.Proof.RefTail

open Cert.ReferenceIdeal Cert.ReferenceIdeal.Gen
open Idealize.ShloMosaic Idealize.ShloMosaic.TcCoe

open Cert.Proof.Results
open Cert.Proof.HeadVals (num)

/-- What the host lines find: the arguments, and the casts of the codes. -/
structure Finds (A : Args) (W : Valuation τ sig (Elt Ideal)) : Prop where
  q : (W (Proc.devRef .tc main_arg0) : Vec Ideal S24x257x16x88 .bf16) = A.q
  k : (W (Proc.devRef .tc main_arg1) : Vec Ideal S24x257x16x88 .bf16) = A.k
  ps : (W (Proc.devRef .tc main_arg3) : Vec Ideal S16 .f32) = A.ps
  vs : (W (Proc.devRef .tc main_arg5) : Vec Ideal S24x16x88 .f32) = A.vs
  g : (W (Proc.devRef .tc main_arg6) : Vec Ideal S24x257x16x88 .bf16) = A.g
  p32 : (W (Proc.devRef .tc main_v0_0) : Vec Ideal S24x16x257x257 .f32) = fun i => num (A.pc i)
  p16 : (W (Proc.devRef .tc main_v0_1) : Vec Ideal S24x16x257x257 .bf16) = fun i => num (A.pc i)
  v16 : (W (Proc.devRef .tc main_v0_2) : Vec Ideal S24x257x16x88 .bf16) = A.vc

variable {A : Args} {W : Valuation τ sig (Elt Ideal)}

/-- The reference's value gradients. -/
theorem v31_apply (H : Finds A W) (b : Fin 24) (r : Fin 257) (h : Fin 16) (d : Fin 88) :
    (StableHlo.after hostOps1 W (Proc.devRef .tc main_v31) : Vec Ideal S24x257x16x88 .bf16) (ix4 b r h d) = resV A b r h d := by
  after_reads_at
  rw [H.ps, H.g, H.p16]
  unfold resV Spec.dv
  exact congrArg (A.ps (ix1 h) * ·) (Finset.sum_congr rfl fun x _ => mul_comm _ _)

/-- The reference's query gradients. -/
theorem v29_apply (H : Finds A W) (b : Fin 24) (r : Fin 257) (h : Fin 16) (d : Fin 88) :
    (StableHlo.after hostOps1 W (Proc.devRef .tc main_v29) : Vec Ideal S24x257x16x88 .bf16) (ix4 b r h d) = resQ A b r h d := by
  after_reads_at
  rw [H.ps, H.g, H.p32, H.v16, H.vs, H.k]
  unfold resQ Spec.dq
  exact congrArg (Spec.κ * ·) (Finset.sum_congr rfl fun x _ => mul_comm _ _)

/-- The reference's key gradients. -/
theorem v30_apply (H : Finds A W) (b : Fin 24) (r : Fin 257) (h : Fin 16) (d : Fin 88) :
    (StableHlo.after hostOps1 W (Proc.devRef .tc main_v30) : Vec Ideal S24x257x16x88 .bf16) (ix4 b r h d) = resK A b r h d := by
  after_reads_at
  rw [H.ps, H.g, H.p32, H.v16, H.vs, H.q]
  unfold resK Spec.dk
  exact congrArg (Spec.κ * ·) (Finset.sum_congr rfl fun x _ => mul_comm _ _)

end Cert.Proof.RefTail
-- ==== Proof.RefVals.lean ====
module

public import proofs.«01_k».proof.Proof.RefTail
public import Idealize.ShloMosaic.Lib.Pipeline.ValueKit

@[expose] public section

set_option maxRecDepth 16384

noncomputable section

/-! The reference's run with its values: its three results are the three results of the arguments. -/

namespace Cert.Proof.RefVals

open Cert.ReferenceIdeal Cert.ReferenceIdeal.Gen
open Cert.Proof.Results Cert.Proof.RefTail
open Cert.Proof.HeadVals (num)
open Idealize.ShloMosaic Idealize.ShloMosaic.TcCoe

variable (m : (ℓ : Loc nD τ sig) → Buf (Elt Ideal) ℓ) (ρ : Dev nD → PrngReg)

/-- The arguments as the reference finds them on device `c`. -/
def argsOf (c : Dev nD) : Args where
  q := m ((c.tc : Thread nD τ).loc main_arg0)
  k := m ((c.tc : Thread nD τ).loc main_arg1)
  pc := m ((c.tc : Thread nD τ).loc main_arg2)
  ps := m ((c.tc : Thread nD τ).loc main_arg3)
  vc := m ((c.tc : Thread nD τ).loc main_arg4)
  vs := m ((c.tc : Thread nD τ).loc main_arg5)
  g := m ((c.tc : Thread nD τ).loc main_arg6)

/-- The window on the codes stays at the start of its array. -/
theorem index_0 : ∀ t : Fin cfg0.N, (cfg0.win 0).index t = ![0, 0, 0, 0] := by decide +kernel
/-- The window on the 8-bit values stays at the start of its array. -/
theorem index_1 : ∀ t : Fin cfg0.N, (cfg0.win 1).index t = ![0, 0, 0, 0] := by decide +kernel

/-- The window on the codes as f32 stays at the start of its array. -/
theorem index_2 : ∀ t : Fin cfg0.N, (cfg0.win 2).index t = ![0, 0, 0, 0] := by decide +kernel

/-- The window on the codes as f32 covers the same indices as the window on the codes. -/
theorem emb_2 (t : Fin cfg0.N) (y : ((cfg0.win 2).xblock (cfg0.grid.coords t)).Idx) :
    (((cfg0.win 0).blk t).view.emb y : S24x16x257x257.Idx) = ((cfg0.win 2).blk t).view.emb y := by
  funext a
  refine Fin.ext (((cfg0.win 0).rect_emb_val t y a).trans (Eq.trans ?_ ((cfg0.win 2).rect_emb_val t y a).symm))
  rw [index_0, index_2]
  match a with
  | ⟨0, _⟩ => rfl
  | ⟨1, _⟩ => rfl
  | ⟨2, _⟩ => rfl
  | ⟨3, _⟩ => rfl

/-- The cast of window 2. -/
theorem arr_2 (c : Dev nD) : (dats m 0 c).arrAt 2 cfg0.N = ((fun i => num ((argsOf m c).pc i)) : Vec Ideal S24x16x257x257 .f32) := by
  refine (dats m 0 c).arrAt_eq_of_covers 2 _ (by decide +kernel) fun t hf y => ?_
  rw [after0_2]
  frame_out
  show num ((V m c main_arg2 : Vec Ideal S24x16x257x257 .i8) (((cfg0.win 0).blk t).view.emb y)) = num ((argsOf m c).pc (((cfg0.win 2).blk t).view.emb y))
  rw [V_main_arg2, emb_2]
  rfl

/-- The window on the codes as bf16 stays at the start of its array. -/
theorem index_3 : ∀ t : Fin cfg0.N, (cfg0.win 3).index t = ![0, 0, 0, 0] := by decide +kernel

/-- The window on the codes as bf16 covers the same indices as the window on the codes. -/
theorem emb_3 (t : Fin cfg0.N) (y : ((cfg0.win 3).xblock (cfg0.grid.coords t)).Idx) :
    (((cfg0.win 0).blk t).view.emb y : S24x16x257x257.Idx) = ((cfg0.win 3).blk t).view.emb y := by
  funext a
  refine Fin.ext (((cfg0.win 0).rect_emb_val t y a).trans (Eq.trans ?_ ((cfg0.win 3).rect_emb_val t y a).symm))
  rw [index_0, index_3]
  match a with
  | ⟨0, _⟩ => rfl
  | ⟨1, _⟩ => rfl
  | ⟨2, _⟩ => rfl
  | ⟨3, _⟩ => rfl

/-- The cast of window 3. -/
theorem arr_3 (c : Dev nD) : (dats m 0 c).arrAt 3 cfg0.N = ((fun i => num ((argsOf m c).pc i)) : Vec Ideal S24x16x257x257 .bf16) := by
  refine (dats m 0 c).arrAt_eq_of_covers 3 _ (by decide +kernel) fun t hf y => ?_
  rw [after0_3]
  frame_out
  show num ((V m c main_arg2 : Vec Ideal S24x16x257x257 .i8) (((cfg0.win 0).blk t).view.emb y)) = num ((argsOf m c).pc (((cfg0.win 3).blk t).view.emb y))
  rw [V_main_arg2, emb_3]
  rfl

/-- The window on the values as bf16 stays at the start of its array. -/
theorem index_4 : ∀ t : Fin cfg0.N, (cfg0.win 4).index t = ![0, 0, 0, 0] := by decide +kernel

/-- The window on the values as bf16 covers the same indices as the window on the 8-bit values. -/
theorem emb_4 (t : Fin cfg0.N) (y : ((cfg0.win 4).xblock (cfg0.grid.coords t)).Idx) :
    (((cfg0.win 1).blk t).view.emb y : S24x257x16x88.Idx) = ((cfg0.win 4).blk t).view.emb y := by
  funext a
  refine Fin.ext (((cfg0.win 1).rect_emb_val t y a).trans (Eq.trans ?_ ((cfg0.win 4).rect_emb_val t y a).symm))
  rw [index_1, index_4]
  match a with
  | ⟨0, _⟩ => rfl
  | ⟨1, _⟩ => rfl
  | ⟨2, _⟩ => rfl
  | ⟨3, _⟩ => rfl

/-- The cast of window 4. -/
theorem arr_4 (c : Dev nD) : (dats m 0 c).arrAt 4 cfg0.N = (((argsOf m c).vc) : Vec Ideal S24x257x16x88 .bf16) := by
  refine (dats m 0 c).arrAt_eq_of_covers 4 _ (by decide +kernel) fun t hf y => ?_
  rw [after0_4]
  frame_out
  show (V m c main_arg4 : Vec Ideal S24x257x16x88 .fp8e4m3) (((cfg0.win 1).blk t).view.emb y) = (argsOf m c).vc (((cfg0.win 4).blk t).view.emb y)
  rw [V_main_arg4, emb_4]
  rfl

/-- The windows of the reference kernel are on different arrays. -/
theorem arrs_inj : Function.Injective (Pipeline.arrRef spec0) := by decide

/-- What the host lines find after the casts. -/
theorem finds (c : Dev nD) : Finds (argsOf m c) (Pipeline.withArrays spec0 c (V0 m c) fun w => (dats m 0 c).arrAt w cfg0.N) where
  q := (Pipeline.withArrays_of_ne _ c (V0 m c) _ main_arg0 (by exact (by decide : ∀ w, Pipeline.arrRef spec0 w ≠ main_arg0)))
  k := (Pipeline.withArrays_of_ne _ c (V0 m c) _ main_arg1 (by exact (by decide : ∀ w, Pipeline.arrRef spec0 w ≠ main_arg1)))
  ps := (Pipeline.withArrays_of_ne _ c (V0 m c) _ main_arg3 (by exact (by decide : ∀ w, Pipeline.arrRef spec0 w ≠ main_arg3)))
  vs := (Pipeline.withArrays_of_ne _ c (V0 m c) _ main_arg5 (by exact (by decide : ∀ w, Pipeline.arrRef spec0 w ≠ main_arg5)))
  g := (Pipeline.withArrays_of_ne _ c (V0 m c) _ main_arg6 (by exact (by decide : ∀ w, Pipeline.arrRef spec0 w ≠ main_arg6)))
  p32 := (Pipeline.withArrays_arr spec0 arrs_inj c (V0 m c) _ 2).trans (arr_2 m c)
  p16 := (Pipeline.withArrays_arr spec0 arrs_inj c (V0 m c) _ 3).trans (arr_3 m c)
  v16 := (Pipeline.withArrays_arr spec0 arrs_inj c (V0 m c) _ 4).trans (arr_4 m c)

/-- A result as an array. -/
def arrOf (R : Fin 24 → Fin 257 → Fin 16 → Fin 88 → EReal) : Vec Ideal S24x257x16x88 .bf16 := fun y => R (y 0) (y 1) (y 2) (y 3)

/-- An array that is a result at every index. -/
theorem eq_arrOf (R : Fin 24 → Fin 257 → Fin 16 → Fin 88 → EReal) (x : Vec Ideal S24x257x16x88 .bf16)
    (hx : ∀ b r h d, x (ix4 b r h d) = R b r h d) : x = arrOf R := by
  funext y
  refine (congrArg x (funext fun a => ?_)).trans (hx (y 0) (y 1) (y 2) (y 3))
  match a with
  | ⟨0, _⟩ => rfl
  | ⟨1, _⟩ => rfl
  | ⟨2, _⟩ => rfl
  | ⟨3, _⟩ => rfl

/-- THE VALUES: the reference ends with the three results of its arguments, its arguments unchanged. -/
theorem values : θ_run defs (onTc (τ := τ) (main (F := Ideal))) ⟨m, fun _ => 0, ρ⟩ (fun r => ∀ c : Dev nD,
      r.2.mem ((c.tc : Thread nD τ).loc main_v29) = arrOf (resQ (argsOf m c))
      ∧ r.2.mem ((c.tc : Thread nD τ).loc main_v30) = arrOf (resK (argsOf m c))
      ∧ r.2.mem ((c.tc : Thread nD τ).loc main_v31) = arrOf (resV (argsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r (h : Pipeline.FramePost cfgs (dats m) 0 (Pipeline.afterTail₀ cfgs (dats m) 0 (V0 m) [hostOps1]) r ∧ ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) c =>
    ⟨((h.1 c).2 main_v29 (Pipeline.mem_restRefs_of main_v29 (by decide) (by decide))).trans (eq_arrOf _ _ (v29_apply (finds m c))),
      ((h.1 c).2 main_v30 (Pipeline.mem_restRefs_of main_v30 (by decide) (by decide))).trans (eq_arrOf _ _ (v30_apply (finds m c))),
      ((h.1 c).2 main_v31 (Pipeline.mem_restRefs_of main_v31 (by decide) (by decide))).trans (eq_arrOf _ _ (v31_apply (finds m c))),
      h.2 c⟩) (θ_run_and (run_main m ρ) (unchanged m ρ))

end Cert.Proof.RefVals
-- ==== Proof.Algebraic.lean ====
module

public import proofs.«01_k».proof.Defs
public import proofs.«01_k».proof.Proof.ValueI
public import proofs.«01_k».proof.Proof.RefVals

@[expose] public section

set_option maxRecDepth 16384

noncomputable section

/-! Over the extended reals the kernel and the reference end with the same three results. -/

namespace Cert.Proof

open Idealize.ShloMosaic Idealize.ShloMosaic.TcCoe Idealize.SL.Sem
open Cert.Proof.Results

attribute [local instance] Cert.KernelIdeal.Gen.facts Cert.ReferenceIdeal.Gen.facts

/-- Equal arrays make equal arguments. -/
theorem args_congr {A B : Args} (h0 : A.q = B.q) (h1 : A.k = B.k) (h2 : A.pc = B.pc) (h3 : A.ps = B.ps) (h4 : A.vc = B.vc)
    (h5 : A.vs = B.vs) (h6 : A.g = B.g) : A = B := by
  cases A; cases B
  cases h0; cases h1; cases h2; cases h3; cases h4; cases h5; cases h6
  rfl

/-- The kernel's results and the reference's are equal, and both leave their arguments unchanged. -/
theorem algebraic : Cert.algebraic_KernelIdeal_ReferenceIdeal := by
  intro m g m' g' _ hargs
  refine ⟨fun c => ValueI.arrOf (resQ (Blocks.argsOf m c)), fun c => ValueI.arrOf (resK (Blocks.argsOf m c)),
    fun c => ValueI.arrOf (resV (Blocks.argsOf m c)), ValueI.values m g, ?_⟩
  have hA : ∀ c, RefVals.argsOf m' c = Blocks.argsOf m c := fun c =>
    have h := hargs c
    args_congr h.1 h.2.1 h.2.2.1 h.2.2.2.1 h.2.2.2.2.1 h.2.2.2.2.2.1 h.2.2.2.2.2.2
  refine (θ_run _ _ _).mono (fun r h c => ?_) (RefVals.values m' g')
  refine ⟨(h c).1.trans ?_, (h c).2.1.trans ?_, (h c).2.2.1.trans ?_, (h c).2.2.2⟩
  · rw [hA c]; rfl
  · rw [hA c]; rfl
  · rw [hA c]; rfl

end Cert.Proof

end
-- ==== Proof.lean ====
module

public import proofs.«01_k».proof.Defs
public import proofs.«01_k».proof.Proof.FrameK
public import proofs.«01_k».proof.Proof.FrameI
public import proofs.«01_k».proof.Proof.Gen.ReferenceIdeal.Frame
public import proofs.«01_k».proof.Proof.Preserves
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => FrameK.frame m ρ, fun m ρ _ => FrameI.frame m ρ, fun m ρ _ => Cert.ReferenceIdeal.Gen.frame m ρ,
  preserves, algebraic⟩

end Cert.Proof

end
